-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_every_sequence_has_a_token [hPre_every_sequence_has_a_token : Cert.Pre_every_sequence_has_a_token.Facts] (m : (ℓ : Loc Cert.KernelIdeal.nD Cert.KernelIdeal.τ Cert.KernelIdeal.sig) → Buf (Elt Ideal) ℓ) : Prop :=
  ∀ c : Dev Cert.KernelIdeal.nD,
    (Cert.Pre_every_sequence_has_a_token.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_every_sequence_has_a_token [hPre_every_sequence_has_a_token : Cert.Pre_every_sequence_has_a_token.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_every_sequence_has_a_token.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_every_sequence_has_a_token [hKernelIdeal : Cert.KernelIdeal.Facts] [hPre_every_sequence_has_a_token : Cert.Pre_every_sequence_has_a_token.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_every_sequence_has_a_token m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_every_sequence_has_a_token [hReferenceIdeal : Cert.ReferenceIdeal.Facts] [hPre_every_sequence_has_a_token : Cert.Pre_every_sequence_has_a_token.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_every_sequence_has_a_token m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "neg" .f32 0xF149F2CA#32 ⊥

def algebraic_KernelIdeal_ReferenceIdeal_pre_every_sequence_has_a_token [hKernelIdeal : Cert.KernelIdeal.Facts] [hReferenceIdeal : Cert.ReferenceIdeal.Facts] [hPre_every_sequence_has_a_token : Cert.Pre_every_sequence_has_a_token.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_every_sequence_has_a_token m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_every_sequence_has_a_token : Cert.Pre_every_sequence_has_a_token.Facts),
    quiescent_Kernel (hKernel := hKernel)
    ∧ quiescent_KernelIdeal (hKernelIdeal := hKernelIdeal)
    ∧ quiescent_KernelIdeal_pre_every_sequence_has_a_token (hKernelIdeal := hKernelIdeal) (hPre_every_sequence_has_a_token := hPre_every_sequence_has_a_token)
    ∧ quiescent_ReferenceIdeal (hReferenceIdeal := hReferenceIdeal)
    ∧ quiescent_ReferenceIdeal_pre_every_sequence_has_a_token (hReferenceIdeal := hReferenceIdeal) (hPre_every_sequence_has_a_token := hPre_every_sequence_has_a_token)
    ∧ preserves_Kernel_KernelIdeal
    ∧ algebraic_KernelIdeal_ReferenceIdeal_pre_every_sequence_has_a_token (hKernelIdeal := hKernelIdeal) (hReferenceIdeal := hReferenceIdeal) (hPre_every_sequence_has_a_token := hPre_every_sequence_has_a_token)
-- ==== Pre_every_sequence_has_a_token.lean ====
abbrev S16x4096x1024 : Shape := ⟨3, ![16, 4096, 1024]⟩
abbrev S16x4096 : Shape := ⟨2, ![16, 4096]⟩
abbrev S_ : Shape := ⟨0, ![]⟩
abbrev S16 : Shape := ⟨1, ![16]⟩

class Facts : Prop where
  natLt_1_32 : 1 < 32
  reducesTo_S16x4096_S16_d1 : S16x4096.ReducesTo [1] S16
  h_S_ : 0 < S_.numel
  bcast_S_S16 : S_.BroadcastsInDim S16 (![] : Fin 0 → Fin S16.rank)

variable [Facts]

def fn {F : FTy → Type} [FloatOps F] (main_arg0 : FVec F S16x4096x1024 .f32) (main_arg1 : IVec S16x4096 1) : IVec S16 1 :=
  let main_v0 : IVec S16x4096 32 := (extui 32 · natLt_1_32) main_arg1
  let main_c : IVec S_ 32 := constantI S_ 32 0#32
  let main_v1 : IVec S16 32 := (fun x v => Host.reduce IntOp.addi x v reducesTo_S16x4096_S16_d1 h_S_) main_v0 main_c
  let main_c_0 : IVec S_ 32 := constantI S_ 32 0#32
  let main_v2 : IVec S16 32 := broadcastInDim S16 ![] bcast_S_S16 main_c_0
  let main_v3 : IVec S16 1 := cmpi .sgt main_v1 main_v2
  main_v3
-- ==== Kernel.lean ====
abbrev S16x4096x1024 : Shape := ⟨3, ![16, 4096, 1024]⟩
abbrev S16x4096 : Shape := ⟨2, ![16, 4096]⟩
abbrev S16x4096x1 : Shape := ⟨3, ![16, 4096, 1]⟩
abbrev S16x4096x128 : Shape := ⟨3, ![16, 4096, 128]⟩
abbrev S16x2048 : Shape := ⟨2, ![16, 2048]⟩
abbrev S4x512x1024 : Shape := ⟨3, ![4, 512, 1024]⟩
abbrev S4x512x128 : Shape := ⟨3, ![4, 512, 128]⟩
abbrev S1x1024 : Shape := ⟨2, ![1, 1024]⟩
abbrev S1 : Shape := ⟨1, ![1]⟩
abbrev S4 : Shape := ⟨1, ![4]⟩
abbrev S_ : Shape := ⟨0, ![]⟩
abbrev S1x512x1024 : Shape := ⟨3, ![1, 512, 1024]⟩
abbrev S512x1024 : Shape := ⟨2, ![512, 1024]⟩
abbrev S1x512x128 : Shape := ⟨3, ![1, 512, 128]⟩
abbrev S512x128 : Shape := ⟨2, ![512, 128]⟩
abbrev S1x64x128 : Shape := ⟨3, ![1, 64, 128]⟩
abbrev S64x128 : Shape := ⟨2, ![64, 128]⟩
abbrev S1x1x1 : Shape := ⟨3, ![1, 1, 1]⟩
abbrev S128 : Shape := ⟨1, ![128]⟩
abbrev S1024 : Shape := ⟨1, ![1024]⟩

abbrev nBuf : Space → Nat
  | .hbm => 6
  | .vmem => 5
  | .smem => 1
  | _ => 0

abbrev bufTy : (tb : Table) → Fin (tcTables nBuf tb) → BufTy
  | .hbm, ⟨0, _⟩ => ⟨S16x4096x1024, .f32⟩
  | .hbm, ⟨1, _⟩ => ⟨S16x4096, .i1⟩
  | .hbm, ⟨2, _⟩ => ⟨S16x4096x1, .i1⟩
  | .hbm, ⟨3, _⟩ => ⟨S16x4096x128, .i1⟩
  | .hbm, ⟨4, _⟩ => ⟨S16x4096x128, .i8⟩
  | .hbm, ⟨5, _⟩ => ⟨S16x2048, .f32⟩
  | .local _ .vmem, ⟨0, _⟩ => ⟨S16x2048, .f32⟩
  | .local _ .vmem, ⟨1, _⟩ => ⟨S4x512x1024, .f32⟩
  | .local _ .vmem, ⟨2, _⟩ => ⟨S4x512x128, .i8⟩
  | .local _ .vmem, ⟨3, _⟩ => ⟨S1x1024, .f32⟩
  | .local _ .vmem, ⟨4, _⟩ => ⟨S1x1024, .f32⟩
  | .local _ .smem, ⟨0, _⟩ => ⟨S1, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.smem, 0, rfl⟩
abbrev cc0_sem0_0 : DmaSem sig := 0

abbrev nD : Nat := 1
abbrev τ : Topo := Topo.v7x

variable {F : FTy → Type} [FloatOps F]

abbrev grid0 : Pipeline.Grid := .none

@[reducible] def k0_t1_loop : Scf.Loop 32 :=
  let c0_i32_55 : BitVec 32 := 0#32
  let c32_i32 : BitVec 32 := 32#32
  let v57 : BitVec 32 := Scalar.addi c0_i32_55 c32_i32
  let c1_i32_56 : BitVec 32 := 1#32
  ⟨c0_i32_55, v57, c1_i32_56⟩
def k0_cond1 (k0_t1 : Fin k0_t1_loop.trips) : BitVec 1 :=
  let c0_i32_55 : BitVec 32 := 0#32
  let c1_i32_56 : BitVec 32 := 1#32
  let arg10 : BitVec 32 := Scf.iv c0_i32_55 c1_i32_56 k0_t1
  let c4_i32 : BitVec 32 := 4#32
  let v58 : BitVec 32 := Scalar.muli arg10 c4_i32
  let c0_i32_58 : BitVec 32 := 0#32
  let v59 : BitVec 32 := Scalar.addi v58 c0_i32_58
  let c4_i32_449 : BitVec 32 := 4#32
  let v689 : BitVec 32 := Scalar.addi v59 c4_i32_449
  let c128_i32 : BitVec 32 := 128#32
  let v690 : BitVec 1 := Scalar.cmpi .slt v689 c128_i32
  let v691 : BitVec 32 := Scalar.extui v690
  let c0_i32_450 : BitVec 32 := 0#32
  let v692 : BitVec 1 := Scalar.cmpi .ne v691 c0_i32_450
  v692

def k0_off1 (k0_t1 : Fin k0_t1_loop.trips) : Fin 3 → Nat :=
  let c0_i32_55 : BitVec 32 := 0#32
  let c1_i32_56 : BitVec 32 := 1#32
  let arg10 : BitVec 32 := Scf.iv c0_i32_55 c1_i32_56 k0_t1
  let c4_i32 : BitVec 32 := 4#32
  let v58 : BitVec 32 := Scalar.muli arg10 c4_i32
  let c0_i32_58 : BitVec 32 := 0#32
  let v59 : BitVec 32 := Scalar.addi v58 c0_i32_58
  let c4_i32_449 : BitVec 32 := 4#32
  let v689 : BitVec 32 := Scalar.addi v59 c4_i32_449
  let c0_i32_1697 : BitVec 32 := 0#32
  let v2651 : BitVec 1 := Scalar.cmpi .sgt v689 c0_i32_1697
  let v2652 : BitVec 32 := Scalar.extui v2651
  let c0_i32_1698 : BitVec 32 := 0#32
  let v2653 : BitVec 1 := Scalar.cmpi .slt v689 c0_i32_1698
  let v2654 : BitVec 32 := Scalar.extui v2653
  let v2655 : BitVec 32 := Scalar.subi v2652 v2654
  let c8_i32_1696 : BitVec 32 := 8#32
  let c0_i32_1699 : BitVec 32 := 0#32
  let v2656 : BitVec 1 := Scalar.cmpi .sgt c8_i32_1696 c0_i32_1699
  let v2657 : BitVec 32 := Scalar.extui v2656
  let c0_i32_1700 : BitVec 32 := 0#32
  let v2658 : BitVec 1 := Scalar.cmpi .slt c8_i32_1696 c0_i32_1700
  let v2659 : BitVec 32 := Scalar.extui v2658
  let v2660 : BitVec 32 := Scalar.subi v2657 v2659
  let v2661 : BitVec 1 := Scalar.cmpi .ne v2655 v2660
  let v2662 : BitVec 32 := Scalar.remsi v689 c8_i32_1696
  let c0_i32_1701 : BitVec 32 := 0#32
  let v2663 : BitVec 1 := Scalar.cmpi .ne v2662 c0_i32_1701
  let v2664 : BitVec 1 := Scalar.andi v2661 v2663
  let v2650 : BitVec 32 := Scalar.divsi v689 c8_i32_1696
  let c1_i32_1702 : BitVec 32 := 1#32
  let v2665 : BitVec 32 := Scalar.subi v2650 c1_i32_1702
  let v2666 : BitVec 32 := Scalar.select v2664 v2665 v2650
  let c8_i32_1703 : BitVec 32 := 8#32
  let c0_i32_1704 : BitVec 32 := 0#32
  let v2667 : BitVec 1 := Scalar.cmpi .eq c8_i32_1703 c0_i32_1704
  let c1_i32_1705 : BitVec 32 := 1#32
  let v2668 : BitVec 32 := Scalar.select v2667 c1_i32_1705 c8_i32_1703
  let v2669 : BitVec 32 := Scalar.remsi v689 v2668
  let c0_i32_1707 : BitVec 32 := 0#32
  let v2671 : BitVec 1 := Scalar.cmpi .slt v2669 c0_i32_1707
  let c0_i32_1708 : BitVec 32 := 0#32
  let v2672 : BitVec 1 := Scalar.cmpi .slt v2668 c0_i32_1708
  let v2673 : BitVec 1 := Scalar.xori v2671 v2672
  let c0_i32_1706 : BitVec 32 := 0#32
  let v2670 : BitVec 1 := Scalar.cmpi .ne v2669 c0_i32_1706
  let v2674 : BitVec 1 := Scalar.andi v2673 v2670
  let v2675 : BitVec 32 := Scalar.addi v2669 v2668
  let v2676 : BitVec 32 := Scalar.select v2674 v2675 v2669
  let c512_i32_1709 : BitVec 32 := 512#32
  let v2677 : BitVec 32 := Scalar.muli v2676 c512_i32_1709
  let c0_i32_1714 : BitVec 32 := 0#32
  ![v2666.toNat, v2677.toNat, 0]
def k0_off2 (k0_t1 : Fin k0_t1_loop.trips) : Fin 3 → Nat :=
  let c0_i32_55 : BitVec 32 := 0#32
  let c1_i32_56 : BitVec 32 := 1#32
  let arg10 : BitVec 32 := Scf.iv c0_i32_55 c1_i32_56 k0_t1
  let c4_i32 : BitVec 32 := 4#32
  let v58 : BitVec 32 := Scalar.muli arg10 c4_i32
  let c0_i32_58 : BitVec 32 := 0#32
  let v59 : BitVec 32 := Scalar.addi v58 c0_i32_58
  let c4_i32_449 : BitVec 32 := 4#32
  let v689 : BitVec 32 := Scalar.addi v59 c4_i32_449
  let c0_i32_1697 : BitVec 32 := 0#32
  let v2651 : BitVec 1 := Scalar.cmpi .sgt v689 c0_i32_1697
  let v2652 : BitVec 32 := Scalar.extui v2651
  let c0_i32_1698 : BitVec 32 := 0#32
  let v2653 : BitVec 1 := Scalar.cmpi .slt v689 c0_i32_1698
  let v2654 : BitVec 32 := Scalar.extui v2653
  let v2655 : BitVec 32 := Scalar.subi v2652 v2654
  let c8_i32_1696 : BitVec 32 := 8#32
  let c0_i32_1699 : BitVec 32 := 0#32
  let v2656 : BitVec 1 := Scalar.cmpi .sgt c8_i32_1696 c0_i32_1699
  let v2657 : BitVec 32 := Scalar.extui v2656
  let c0_i32_1700 : BitVec 32 := 0#32
  let v2658 : BitVec 1 := Scalar.cmpi .slt c8_i32_1696 c0_i32_1700
  let v2659 : BitVec 32 := Scalar.extui v2658
  let v2660 : BitVec 32 := Scalar.subi v2657 v2659
  let v2661 : BitVec 1 := Scalar.cmpi .ne v2655 v2660
  let v2662 : BitVec 32 := Scalar.remsi v689 c8_i32_1696
  let c0_i32_1701 : BitVec 32 := 0#32
  let v2663 : BitVec 1 := Scalar.cmpi .ne v2662 c0_i32_1701
  let v2664 : BitVec 1 := Scalar.andi v2661 v2663
  let v2650 : BitVec 32 := Scalar.divsi v689 c8_i32_1696
  let c1_i32_1702 : BitVec 32 := 1#32
  let v2665 : BitVec 32 := Scalar.subi v2650 c1_i32_1702
  let v2666 : BitVec 32 := Scalar.select v2664 v2665 v2650
  let c8_i32_1703 : BitVec 32 := 8#32
  let c0_i32_1704 : BitVec 32 := 0#32
  let v2667 : BitVec 1 := Scalar.cmpi .eq c8_i32_1703 c0_i32_1704
  let c1_i32_1705 : BitVec 32 := 1#32
  let v2668 : BitVec 32 := Scalar.select v2667 c1_i32_1705 c8_i32_1703
  let v2669 : BitVec 32 := Scalar.remsi v689 v2668
  let c0_i32_1707 : BitVec 32 := 0#32
  let v2671 : BitVec 1 := Scalar.cmpi .slt v2669 c0_i32_1707
  let c0_i32_1708 : BitVec 32 := 0#32
  let v2672 : BitVec 1 := Scalar.cmpi .slt v2668 c0_i32_1708
  let v2673 : BitVec 1 := Scalar.xori v2671 v2672
  let c0_i32_1706 : BitVec 32 := 0#32
  let v2670 : BitVec 1 := Scalar.cmpi .ne v2669 c0_i32_1706
  let v2674 : BitVec 1 := Scalar.andi v2673 v2670
  let v2675 : BitVec 32 := Scalar.addi v2669 v2668
  let v2676 : BitVec 32 := Scalar.select v2674 v2675 v2669
  let c512_i32_1715 : BitVec 32 := 512#32
  let v2684 : BitVec 32 := Scalar.muli v2676 c512_i32_1715
  let c0_i32_1720 : BitVec 32 := 0#32
  ![v2666.toNat, v2684.toNat, 0]
def k0_cond2 (k0_t1 : Fin k0_t1_loop.trips) : BitVec 1 :=
  let c0_i32_55 : BitVec 32 := 0#32
  let c1_i32_56 : BitVec 32 := 1#32
  let arg10 : BitVec 32 := Scf.iv c0_i32_55 c1_i32_56 k0_t1
  let c4_i32 : BitVec 32 := 4#32
  let v58 : BitVec 32 := Scalar.muli arg10 c4_i32
  let c0_i32_58 : BitVec 32 := 0#32
  let v59 : BitVec 32 := Scalar.addi v58 c0_i32_58
  let c8_i32 : BitVec 32 := 8#32
  let c0_i32_451 : BitVec 32 := 0#32
  let v693 : BitVec 1 := Scalar.cmpi .eq c8_i32 c0_i32_451
  let c1_i32_452 : BitVec 32 := 1#32
  let v694 : BitVec 32 := Scalar.select v693 c1_i32_452 c8_i32
  let v695 : BitVec 32 := Scalar.remsi v59 v694
  let c0_i32_454 : BitVec 32 := 0#32
  let v697 : BitVec 1 := Scalar.cmpi .slt v695 c0_i32_454
  let c0_i32_455 : BitVec 32 := 0#32
  let v698 : BitVec 1 := Scalar.cmpi .slt v694 c0_i32_455
  let v699 : BitVec 1 := Scalar.xori v697 v698
  let c0_i32_453 : BitVec 32 := 0#32
  let v696 : BitVec 1 := Scalar.cmpi .ne v695 c0_i32_453
  let v700 : BitVec 1 := Scalar.andi v699 v696
  let v701 : BitVec 32 := Scalar.addi v695 v694
  let v702 : BitVec 32 := Scalar.select v700 v701 v695
  let c7_i32 : BitVec 32 := 7#32
  let v703 : BitVec 1 := Scalar.cmpi .eq v702 c7_i32
  let v704 : BitVec 32 := Scalar.extui v703
  let c0_i32_456 : BitVec 32 := 0#32
  let v705 : BitVec 1 := Scalar.cmpi .ne v704 c0_i32_456
  v705

def k0_off3 (k0_t1 : Fin k0_t1_loop.trips) : Fin 2 → Nat :=
  let c0_i32_55 : BitVec 32 := 0#32
  let c1_i32_56 : BitVec 32 := 1#32
  let arg10 : BitVec 32 := Scf.iv c0_i32_55 c1_i32_56 k0_t1
  let c4_i32 : BitVec 32 := 4#32
  let v58 : BitVec 32 := Scalar.muli arg10 c4_i32
  let c0_i32_58 : BitVec 32 := 0#32
  let v59 : BitVec 32 := Scalar.addi v58 c0_i32_58
  let c0_i32_1697 : BitVec 32 := 0#32
  let v2651 : BitVec 1 := Scalar.cmpi .sgt v59 c0_i32_1697
  let v2652 : BitVec 32 := Scalar.extui v2651
  let c0_i32_1698 : BitVec 32 := 0#32
  let v2653 : BitVec 1 := Scalar.cmpi .slt v59 c0_i32_1698
  let v2654 : BitVec 32 := Scalar.extui v2653
  let v2655 : BitVec 32 := Scalar.subi v2652 v2654
  let c8_i32_1696 : BitVec 32 := 8#32
  let c0_i32_1699 : BitVec 32 := 0#32
  let v2656 : BitVec 1 := Scalar.cmpi .sgt c8_i32_1696 c0_i32_1699
  let v2657 : BitVec 32 := Scalar.extui v2656
  let c0_i32_1700 : BitVec 32 := 0#32
  let v2658 : BitVec 1 := Scalar.cmpi .slt c8_i32_1696 c0_i32_1700
  let v2659 : BitVec 32 := Scalar.extui v2658
  let v2660 : BitVec 32 := Scalar.subi v2657 v2659
  let v2661 : BitVec 1 := Scalar.cmpi .ne v2655 v2660
  let v2662 : BitVec 32 := Scalar.remsi v59 c8_i32_1696
  let c0_i32_1701 : BitVec 32 := 0#32
  let v2663 : BitVec 1 := Scalar.cmpi .ne v2662 c0_i32_1701
  let v2664 : BitVec 1 := Scalar.andi v2661 v2663
  let v2650 : BitVec 32 := Scalar.divsi v59 c8_i32_1696
  let c1_i32_1702 : BitVec 32 := 1#32
  let v2665 : BitVec 32 := Scalar.subi v2650 c1_i32_1702
  let v2666 : BitVec 32 := Scalar.select v2664 v2665 v2650
  let v2670 : Index := Scalar.indexCast v2666
  let c0_1707 : Index := 0#32
  ![v2670.toNat, 0]
def k0_off4 (k0_t1 : Fin k0_t1_loop.trips) : Fin 2 → Nat :=
  let c0_i32_55 : BitVec 32 := 0#32
  let c1_i32_56 : BitVec 32 := 1#32
  let arg10 : BitVec 32 := Scf.iv c0_i32_55 c1_i32_56 k0_t1
  let c4_i32 : BitVec 32 := 4#32
  let v58 : BitVec 32 := Scalar.muli arg10 c4_i32
  let c0_i32_58 : BitVec 32 := 0#32
  let v59 : BitVec 32 := Scalar.addi v58 c0_i32_58
  let c0_i32_1697 : BitVec 32 := 0#32
  let v2651 : BitVec 1 := Scalar.cmpi .sgt v59 c0_i32_1697
  let v2652 : BitVec 32 := Scalar.extui v2651
  let c0_i32_1698 : BitVec 32 := 0#32
  let v2653 : BitVec 1 := Scalar.cmpi .slt v59 c0_i32_1698
  let v2654 : BitVec 32 := Scalar.extui v2653
  let v2655 : BitVec 32 := Scalar.subi v2652 v2654
  let c8_i32_1696 : BitVec 32 := 8#32
  let c0_i32_1699 : BitVec 32 := 0#32
  let v2656 : BitVec 1 := Scalar.cmpi .sgt c8_i32_1696 c0_i32_1699
  let v2657 : BitVec 32 := Scalar.extui v2656
  let c0_i32_1700 : BitVec 32 := 0#32
  let v2658 : BitVec 1 := Scalar.cmpi .slt c8_i32_1696 c0_i32_1700
  let v2659 : BitVec 32 := Scalar.extui v2658
  let v2660 : BitVec 32 := Scalar.subi v2657 v2659
  let v2661 : BitVec 1 := Scalar.cmpi .ne v2655 v2660
  let v2662 : BitVec 32 := Scalar.remsi v59 c8_i32_1696
  let c0_i32_1701 : BitVec 32 := 0#32
  let v2663 : BitVec 1 := Scalar.cmpi .ne v2662 c0_i32_1701
  let v2664 : BitVec 1 := Scalar.andi v2661 v2663
  let v2650 : BitVec 32 := Scalar.divsi v59 c8_i32_1696
  let c1_i32_1702 : BitVec 32 := 1#32
  let v2665 : BitVec 32 := Scalar.subi v2650 c1_i32_1702
  let v2666 : BitVec 32 := Scalar.select v2664 v2665 v2650
  let v2675 : Index := Scalar.indexCast v2666
  let c1024 : Index := 1024#32
  ![v2675.toNat, 1024]
def k0_cond3 (k0_t1 : Fin k0_t1_loop.trips) : BitVec 1 :=
  let c0_i32_55 : BitVec 32 := 0#32
  let c1_i32_56 : BitVec 32 := 1#32
  let arg10 : BitVec 32 := Scf.iv c0_i32_55 c1_i32_56 k0_t1
  let c4_i32_457 : BitVec 32 := 4#32
  let v706 : BitVec 32 := Scalar.muli arg10 c4_i32_457
  let c1_i32_458 : BitVec 32 := 1#32
  let v707 : BitVec 32 := Scalar.addi v706 c1_i32_458
  let c4_i32_859 : BitVec 32 := 4#32
  let v1337 : BitVec 32 := Scalar.addi v707 c4_i32_859
  let c128_i32_860 : BitVec 32 := 128#32
  let v1338 : BitVec 1 := Scalar.cmpi .slt v1337 c128_i32_860
  let v1339 : BitVec 32 := Scalar.extui v1338
  let c0_i32_861 : BitVec 32 := 0#32
  let v1340 : BitVec 1 := Scalar.cmpi .ne v1339 c0_i32_861
  v1340

def k0_off5 (k0_t1 : Fin k0_t1_loop.trips) : Fin 3 → Nat :=
  let c0_i32_55 : BitVec 32 := 0#32
  let c1_i32_56 : BitVec 32 := 1#32
  let arg10 : BitVec 32 := Scf.iv c0_i32_55 c1_i32_56 k0_t1
  let c4_i32_457 : BitVec 32 := 4#32
  let v706 : BitVec 32 := Scalar.muli arg10 c4_i32_457
  let c1_i32_458 : BitVec 32 := 1#32
  let v707 : BitVec 32 := Scalar.addi v706 c1_i32_458
  let c4_i32_859 : BitVec 32 := 4#32
  let v1337 : BitVec 32 := Scalar.addi v707 c4_i32_859
  let c0_i32_1697 : BitVec 32 := 0#32
  let v2651 : BitVec 1 := Scalar.cmpi .sgt v1337 c0_i32_1697
  let v2652 : BitVec 32 := Scalar.extui v2651
  let c0_i32_1698 : BitVec 32 := 0#32
  let v2653 : BitVec 1 := Scalar.cmpi .slt v1337 c0_i32_1698
  let v2654 : BitVec 32 := Scalar.extui v2653
  let v2655 : BitVec 32 := Scalar.subi v2652 v2654
  let c8_i32_1696 : BitVec 32 := 8#32
  let c0_i32_1699 : BitVec 32 := 0#32
  let v2656 : BitVec 1 := Scalar.cmpi .sgt c8_i32_1696 c0_i32_1699
  let v2657 : BitVec 32 := Scalar.extui v2656
  let c0_i32_1700 : BitVec 32 := 0#32
  let v2658 : BitVec 1 := Scalar.cmpi .slt c8_i32_1696 c0_i32_1700
  let v2659 : BitVec 32 := Scalar.extui v2658
  let v2660 : BitVec 32 := Scalar.subi v2657 v2659
  let v2661 : BitVec 1 := Scalar.cmpi .ne v2655 v2660
  let v2662 : BitVec 32 := Scalar.remsi v1337 c8_i32_1696
  let c0_i32_1701 : BitVec 32 := 0#32
  let v2663 : BitVec 1 := Scalar.cmpi .ne v2662 c0_i32_1701
  let v2664 : BitVec 1 := Scalar.andi v2661 v2663
  let v2650 : BitVec 32 := Scalar.divsi v1337 c8_i32_1696
  let c1_i32_1702 : BitVec 32 := 1#32
  let v2665 : BitVec 32 := Scalar.subi v2650 c1_i32_1702
  let v2666 : BitVec 32 := Scalar.select v2664 v2665 v2650
  let c8_i32_1703 : BitVec 32 := 8#32
  let c0_i32_1704 : BitVec 32 := 0#32
  let v2667 : BitVec 1 := Scalar.cmpi .eq c8_i32_1703 c0_i32_1704
  let c1_i32_1705 : BitVec 32 := 1#32
  let v2668 : BitVec 32 := Scalar.select v2667 c1_i32_1705 c8_i32_1703
  let v2669 : BitVec 32 := Scalar.remsi v1337 v2668
  let c0_i32_1707 : BitVec 32 := 0#32
  let v2671 : BitVec 1 := Scalar.cmpi .slt v2669 c0_i32_1707
  let c0_i32_1708 : BitVec 32 := 0#32
  let v2672 : BitVec 1 := Scalar.cmpi .slt v2668 c0_i32_1708
  let v2673 : BitVec 1 := Scalar.xori v2671 v2672
  let c0_i32_1706 : BitVec 32 := 0#32
  let v2670 : BitVec 1 := Scalar.cmpi .ne v2669 c0_i32_1706
  let v2674 : BitVec 1 := Scalar.andi v2673 v2670
  let v2675 : BitVec 32 := Scalar.addi v2669 v2668
  let v2676 : BitVec 32 := Scalar.select v2674 v2675 v2669
  let c512_i32_1709 : BitVec 32 := 512#32
  let v2677 : BitVec 32 := Scalar.muli v2676 c512_i32_1709
  let c0_i32_1714 : BitVec 32 := 0#32
  ![v2666.toNat, v2677.toNat, 0]
def k0_off6 (k0_t1 : Fin k0_t1_loop.trips) : Fin 3 → Nat :=
  let c0_i32_55 : BitVec 32 := 0#32
  let c1_i32_56 : BitVec 32 := 1#32
  let arg10 : BitVec 32 := Scf.iv c0_i32_55 c1_i32_56 k0_t1
  let c4_i32_457 : BitVec 32 := 4#32
  let v706 : BitVec 32 := Scalar.muli arg10 c4_i32_457
  let c1_i32_458 : BitVec 32 := 1#32
  let v707 : BitVec 32 := Scalar.addi v706 c1_i32_458
  let c4_i32_859 : BitVec 32 := 4#32
  let v1337 : BitVec 32 := Scalar.addi v707 c4_i32_859
  let c0_i32_1697 : BitVec 32 := 0#32
  let v2651 : BitVec 1 := Scalar.cmpi .sgt v1337 c0_i32_1697
  let v2652 : BitVec 32 := Scalar.extui v2651
  let c0_i32_1698 : BitVec 32 := 0#32
  let v2653 : BitVec 1 := Scalar.cmpi .slt v1337 c0_i32_1698
  let v2654 : BitVec 32 := Scalar.extui v2653
  let v2655 : BitVec 32 := Scalar.subi v2652 v2654
  let c8_i32_1696 : BitVec 32 := 8#32
  let c0_i32_1699 : BitVec 32 := 0#32
  let v2656 : BitVec 1 := Scalar.cmpi .sgt c8_i32_1696 c0_i32_1699
  let v2657 : BitVec 32 := Scalar.extui v2656
  let c0_i32_1700 : BitVec 32 := 0#32
  let v2658 : BitVec 1 := Scalar.cmpi .slt c8_i32_1696 c0_i32_1700
  let v2659 : BitVec 32 := Scalar.extui v2658
  let v2660 : BitVec 32 := Scalar.subi v2657 v2659
  let v2661 : BitVec 1 := Scalar.cmpi .ne v2655 v2660
  let v2662 : BitVec 32 := Scalar.remsi v1337 c8_i32_1696
  let c0_i32_1701 : BitVec 32 := 0#32
  let v2663 : BitVec 1 := Scalar.cmpi .ne v2662 c0_i32_1701
  let v2664 : BitVec 1 := Scalar.andi v2661 v2663
  let v2650 : BitVec 32 := Scalar.divsi v1337 c8_i32_1696
  let c1_i32_1702 : BitVec 32 := 1#32
  let v2665 : BitVec 32 := Scalar.subi v2650 c1_i32_1702
  let v2666 : BitVec 32 := Scalar.select v2664 v2665 v2650
  let c8_i32_1703 : BitVec 32 := 8#32
  let c0_i32_1704 : BitVec 32 := 0#32
  let v2667 : BitVec 1 := Scalar.cmpi .eq c8_i32_1703 c0_i32_1704
  let c1_i32_1705 : BitVec 32 := 1#32
  let v2668 : BitVec 32 := Scalar.select v2667 c1_i32_1705 c8_i32_1703
  let v2669 : BitVec 32 := Scalar.remsi v1337 v2668
  let c0_i32_1707 : BitVec 32 := 0#32
  let v2671 : BitVec 1 := Scalar.cmpi .slt v2669 c0_i32_1707
  let c0_i32_1708 : BitVec 32 := 0#32
  let v2672 : BitVec 1 := Scalar.cmpi .slt v2668 c0_i32_1708
  let v2673 : BitVec 1 := Scalar.xori v2671 v2672
  let c0_i32_1706 : BitVec 32 := 0#32
  let v2670 : BitVec 1 := Scalar.cmpi .ne v2669 c0_i32_1706
  let v2674 : BitVec 1 := Scalar.andi v2673 v2670
  let v2675 : BitVec 32 := Scalar.addi v2669 v2668
  let v2676 : BitVec 32 := Scalar.select v2674 v2675 v2669
  let c512_i32_1715 : BitVec 32 := 512#32
  let v2684 : BitVec 32 := Scalar.muli v2676 c512_i32_1715
  let c0_i32_1720 : BitVec 32 := 0#32
  ![v2666.toNat, v2684.toNat, 0]
def k0_cond4 (k0_t1 : Fin k0_t1_loop.trips) : BitVec 1 :=
  let c0_i32_55 : BitVec 32 := 0#32
  let c1_i32_56 : BitVec 32 := 1#32
  let arg10 : BitVec 32 := Scf.iv c0_i32_55 c1_i32_56 k0_t1
  let c4_i32_457 : BitVec 32 := 4#32
  let v706 : BitVec 32 := Scalar.muli arg10 c4_i32_457
  let c1_i32_458 : BitVec 32 := 1#32
  let v707 : BitVec 32 := Scalar.addi v706 c1_i32_458
  let c8_i32_862 : BitVec 32 := 8#32
  let c0_i32_863 : BitVec 32 := 0#32
  let v1341 : BitVec 1 := Scalar.cmpi .eq c8_i32_862 c0_i32_863
  let c1_i32_864 : BitVec 32 := 1#32
  let v1342 : BitVec 32 := Scalar.select v1341 c1_i32_864 c8_i32_862
  let v1343 : BitVec 32 := Scalar.remsi v707 v1342
  let c0_i32_866 : BitVec 32 := 0#32
  let v1345 : BitVec 1 := Scalar.cmpi .slt v1343 c0_i32_866
  let c0_i32_867 : BitVec 32 := 0#32
  let v1346 : BitVec 1 := Scalar.cmpi .slt v1342 c0_i32_867
  let v1347 : BitVec 1 := Scalar.xori v1345 v1346
  let c0_i32_865 : BitVec 32 := 0#32
  let v1344 : BitVec 1 := Scalar.cmpi .ne v1343 c0_i32_865
  let v1348 : BitVec 1 := Scalar.andi v1347 v1344
  let v1349 : BitVec 32 := Scalar.addi v1343 v1342
  let v1350 : BitVec 32 := Scalar.select v1348 v1349 v1343
  let c7_i32_868 : BitVec 32 := 7#32
  let v1351 : BitVec 1 := Scalar.cmpi .eq v1350 c7_i32_868
  let v1352 : BitVec 32 := Scalar.extui v1351
  let c0_i32_869 : BitVec 32 := 0#32
  let v1353 : BitVec 1 := Scalar.cmpi .ne v1352 c0_i32_869
  v1353

def k0_off7 (k0_t1 : Fin k0_t1_loop.trips) : Fin 2 → Nat :=
  let c0_i32_55 : BitVec 32 := 0#32
  let c1_i32_56 : BitVec 32 := 1#32
  let arg10 : BitVec 32 := Scf.iv c0_i32_55 c1_i32_56 k0_t1
  let c4_i32_457 : BitVec 32 := 4#32
  let v706 : BitVec 32 := Scalar.muli arg10 c4_i32_457
  let c1_i32_458 : BitVec 32 := 1#32
  let v707 : BitVec 32 := Scalar.addi v706 c1_i32_458
  let c0_i32_1697 : BitVec 32 := 0#32
  let v2651 : BitVec 1 := Scalar.cmpi .sgt v707 c0_i32_1697
  let v2652 : BitVec 32 := Scalar.extui v2651
  let c0_i32_1698 : BitVec 32 := 0#32
  let v2653 : BitVec 1 := Scalar.cmpi .slt v707 c0_i32_1698
  let v2654 : BitVec 32 := Scalar.extui v2653
  let v2655 : BitVec 32 := Scalar.subi v2652 v2654
  let c8_i32_1696 : BitVec 32 := 8#32
  let c0_i32_1699 : BitVec 32 := 0#32
  let v2656 : BitVec 1 := Scalar.cmpi .sgt c8_i32_1696 c0_i32_1699
  let v2657 : BitVec 32 := Scalar.extui v2656
  let c0_i32_1700 : BitVec 32 := 0#32
  let v2658 : BitVec 1 := Scalar.cmpi .slt c8_i32_1696 c0_i32_1700
  let v2659 : BitVec 32 := Scalar.extui v2658
  let v2660 : BitVec 32 := Scalar.subi v2657 v2659
  let v2661 : BitVec 1 := Scalar.cmpi .ne v2655 v2660
  let v2662 : BitVec 32 := Scalar.remsi v707 c8_i32_1696
  let c0_i32_1701 : BitVec 32 := 0#32
  let v2663 : BitVec 1 := Scalar.cmpi .ne v2662 c0_i32_1701
  let v2664 : BitVec 1 := Scalar.andi v2661 v2663
  let v2650 : BitVec 32 := Scalar.divsi v707 c8_i32_1696
  let c1_i32_1702 : BitVec 32 := 1#32
  let v2665 : BitVec 32 := Scalar.subi v2650 c1_i32_1702
  let v2666 : BitVec 32 := Scalar.select v2664 v2665 v2650
  let v2670 : Index := Scalar.indexCast v2666
  let c0_1707 : Index := 0#32
  ![v2670.toNat, 0]
def k0_off8 (k0_t1 : Fin k0_t1_loop.trips) : Fin 2 → Nat :=
  let c0_i32_55 : BitVec 32 := 0#32
  let c1_i32_56 : BitVec 32 := 1#32
  let arg10 : BitVec 32 := Scf.iv c0_i32_55 c1_i32_56 k0_t1
  let c4_i32_457 : BitVec 32 := 4#32
  let v706 : BitVec 32 := Scalar.muli arg10 c4_i32_457
  let c1_i32_458 : BitVec 32 := 1#32
  let v707 : BitVec 32 := Scalar.addi v706 c1_i32_458
  let c0_i32_1697 : BitVec 32 := 0#32
  let v2651 : BitVec 1 := Scalar.cmpi .sgt v707 c0_i32_1697
  let v2652 : BitVec 32 := Scalar.extui v2651
  let c0_i32_1698 : BitVec 32 := 0#32
  let v2653 : BitVec 1 := Scalar.cmpi .slt v707 c0_i32_1698
  let v2654 : BitVec 32 := Scalar.extui v2653
  let v2655 : BitVec 32 := Scalar.subi v2652 v2654
  let c8_i32_1696 : BitVec 32 := 8#32
  let c0_i32_1699 : BitVec 32 := 0#32
  let v2656 : BitVec 1 := Scalar.cmpi .sgt c8_i32_1696 c0_i32_1699
  let v2657 : BitVec 32 := Scalar.extui v2656
  let c0_i32_1700 : BitVec 32 := 0#32
  let v2658 : BitVec 1 := Scalar.cmpi .slt c8_i32_1696 c0_i32_1700
  let v2659 : BitVec 32 := Scalar.extui v2658
  let v2660 : BitVec 32 := Scalar.subi v2657 v2659
  let v2661 : BitVec 1 := Scalar.cmpi .ne v2655 v2660
  let v2662 : BitVec 32 := Scalar.remsi v707 c8_i32_1696
  let c0_i32_1701 : BitVec 32 := 0#32
  let v2663 : BitVec 1 := Scalar.cmpi .ne v2662 c0_i32_1701
  let v2664 : BitVec 1 := Scalar.andi v2661 v2663
  let v2650 : BitVec 32 := Scalar.divsi v707 c8_i32_1696
  let c1_i32_1702 : BitVec 32 := 1#32
  let v2665 : BitVec 32 := Scalar.subi v2650 c1_i32_1702
  let v2666 : BitVec 32 := Scalar.select v2664 v2665 v2650
  let v2675 : Index := Scalar.indexCast v2666
  let c1024 : Index := 1024#32
  ![v2675.toNat, 1024]
def k0_cond5 (k0_t1 : Fin k0_t1_loop.trips) : BitVec 1 :=
  let c0_i32_55 : BitVec 32 := 0#32
  let c1_i32_56 : BitVec 32 := 1#32
  let arg10 : BitVec 32 := Scf.iv c0_i32_55 c1_i32_56 k0_t1
  let c4_i32_870 : BitVec 32 := 4#32
  let v1354 : BitVec 32 := Scalar.muli arg10 c4_i32_870
  let c2_i32_871 : BitVec 32 := 2#32
  let v1355 : BitVec 32 := Scalar.addi v1354 c2_i32_871
  let c4_i32_1272 : BitVec 32 := 4#32
  let v1985 : BitVec 32 := Scalar.addi v1355 c4_i32_1272
  let c128_i32_1273 : BitVec 32 := 128#32
  let v1986 : BitVec 1 := Scalar.cmpi .slt v1985 c128_i32_1273
  let v1987 : BitVec 32 := Scalar.extui v1986
  let c0_i32_1274 : BitVec 32 := 0#32
  let v1988 : BitVec 1 := Scalar.cmpi .ne v1987 c0_i32_1274
  v1988

def k0_off9 (k0_t1 : Fin k0_t1_loop.trips) : Fin 3 → Nat :=
  let c0_i32_55 : BitVec 32 := 0#32
  let c1_i32_56 : BitVec 32 := 1#32
  let arg10 : BitVec 32 := Scf.iv c0_i32_55 c1_i32_56 k0_t1
  let c4_i32_870 : BitVec 32 := 4#32
  let v1354 : BitVec 32 := Scalar.muli arg10 c4_i32_870
  let c2_i32_871 : BitVec 32 := 2#32
  let v1355 : BitVec 32 := Scalar.addi v1354 c2_i32_871
  let c4_i32_1272 : BitVec 32 := 4#32
  let v1985 : BitVec 32 := Scalar.addi v1355 c4_i32_1272
  let c0_i32_1697 : BitVec 32 := 0#32
  let v2651 : BitVec 1 := Scalar.cmpi .sgt v1985 c0_i32_1697
  let v2652 : BitVec 32 := Scalar.extui v2651
  let c0_i32_1698 : BitVec 32 := 0#32
  let v2653 : BitVec 1 := Scalar.cmpi .slt v1985 c0_i32_1698
  let v2654 : BitVec 32 := Scalar.extui v2653
  let v2655 : BitVec 32 := Scalar.subi v2652 v2654
  let c8_i32_1696 : BitVec 32 := 8#32
  let c0_i32_1699 : BitVec 32 := 0#32
  let v2656 : BitVec 1 := Scalar.cmpi .sgt c8_i32_1696 c0_i32_1699
  let v2657 : BitVec 32 := Scalar.extui v2656
  let c0_i32_1700 : BitVec 32 := 0#32
  let v2658 : BitVec 1 := Scalar.cmpi .slt c8_i32_1696 c0_i32_1700
  let v2659 : BitVec 32 := Scalar.extui v2658
  let v2660 : BitVec 32 := Scalar.subi v2657 v2659
  let v2661 : BitVec 1 := Scalar.cmpi .ne v2655 v2660
  let v2662 : BitVec 32 := Scalar.remsi v1985 c8_i32_1696
  let c0_i32_1701 : BitVec 32 := 0#32
  let v2663 : BitVec 1 := Scalar.cmpi .ne v2662 c0_i32_1701
  let v2664 : BitVec 1 := Scalar.andi v2661 v2663
  let v2650 : BitVec 32 := Scalar.divsi v1985 c8_i32_1696
  let c1_i32_1702 : BitVec 32 := 1#32
  let v2665 : BitVec 32 := Scalar.subi v2650 c1_i32_1702
  let v2666 : BitVec 32 := Scalar.select v2664 v2665 v2650
  let c8_i32_1703 : BitVec 32 := 8#32
  let c0_i32_1704 : BitVec 32 := 0#32
  let v2667 : BitVec 1 := Scalar.cmpi .eq c8_i32_1703 c0_i32_1704
  let c1_i32_1705 : BitVec 32 := 1#32
  let v2668 : BitVec 32 := Scalar.select v2667 c1_i32_1705 c8_i32_1703
  let v2669 : BitVec 32 := Scalar.remsi v1985 v2668
  let c0_i32_1707 : BitVec 32 := 0#32
  let v2671 : BitVec 1 := Scalar.cmpi .slt v2669 c0_i32_1707
  let c0_i32_1708 : BitVec 32 := 0#32
  let v2672 : BitVec 1 := Scalar.cmpi .slt v2668 c0_i32_1708
  let v2673 : BitVec 1 := Scalar.xori v2671 v2672
  let c0_i32_1706 : BitVec 32 := 0#32
  let v2670 : BitVec 1 := Scalar.cmpi .ne v2669 c0_i32_1706
  let v2674 : BitVec 1 := Scalar.andi v2673 v2670
  let v2675 : BitVec 32 := Scalar.addi v2669 v2668
  let v2676 : BitVec 32 := Scalar.select v2674 v2675 v2669
  let c512_i32_1709 : BitVec 32 := 512#32
  let v2677 : BitVec 32 := Scalar.muli v2676 c512_i32_1709
  let c0_i32_1714 : BitVec 32 := 0#32
  ![v2666.toNat, v2677.toNat, 0]
def k0_off10 (k0_t1 : Fin k0_t1_loop.trips) : Fin 3 → Nat :=
  let c0_i32_55 : BitVec 32 := 0#32
  let c1_i32_56 : BitVec 32 := 1#32
  let arg10 : BitVec 32 := Scf.iv c0_i32_55 c1_i32_56 k0_t1
  let c4_i32_870 : BitVec 32 := 4#32
  let v1354 : BitVec 32 := Scalar.muli arg10 c4_i32_870
  let c2_i32_871 : BitVec 32 := 2#32
  let v1355 : BitVec 32 := Scalar.addi v1354 c2_i32_871
  let c4_i32_1272 : BitVec 32 := 4#32
  let v1985 : BitVec 32 := Scalar.addi v1355 c4_i32_1272
  let c0_i32_1697 : BitVec 32 := 0#32
  let v2651 : BitVec 1 := Scalar.cmpi .sgt v1985 c0_i32_1697
  let v2652 : BitVec 32 := Scalar.extui v2651
  let c0_i32_1698 : BitVec 32 := 0#32
  let v2653 : BitVec 1 := Scalar.cmpi .slt v1985 c0_i32_1698
  let v2654 : BitVec 32 := Scalar.extui v2653
  let v2655 : BitVec 32 := Scalar.subi v2652 v2654
  let c8_i32_1696 : BitVec 32 := 8#32
  let c0_i32_1699 : BitVec 32 := 0#32
  let v2656 : BitVec 1 := Scalar.cmpi .sgt c8_i32_1696 c0_i32_1699
  let v2657 : BitVec 32 := Scalar.extui v2656
  let c0_i32_1700 : BitVec 32 := 0#32
  let v2658 : BitVec 1 := Scalar.cmpi .slt c8_i32_1696 c0_i32_1700
  let v2659 : BitVec 32 := Scalar.extui v2658
  let v2660 : BitVec 32 := Scalar.subi v2657 v2659
  let v2661 : BitVec 1 := Scalar.cmpi .ne v2655 v2660
  let v2662 : BitVec 32 := Scalar.remsi v1985 c8_i32_1696
  let c0_i32_1701 : BitVec 32 := 0#32
  let v2663 : BitVec 1 := Scalar.cmpi .ne v2662 c0_i32_1701
  let v2664 : BitVec 1 := Scalar.andi v2661 v2663
  let v2650 : BitVec 32 := Scalar.divsi v1985 c8_i32_1696
  let c1_i32_1702 : BitVec 32 := 1#32
  let v2665 : BitVec 32 := Scalar.subi v2650 c1_i32_1702
  let v2666 : BitVec 32 := Scalar.select v2664 v2665 v2650
  let c8_i32_1703 : BitVec 32 := 8#32
  let c0_i32_1704 : BitVec 32 := 0#32
  let v2667 : BitVec 1 := Scalar.cmpi .eq c8_i32_1703 c0_i32_1704
  let c1_i32_1705 : BitVec 32 := 1#32
  let v2668 : BitVec 32 := Scalar.select v2667 c1_i32_1705 c8_i32_1703
  let v2669 : BitVec 32 := Scalar.remsi v1985 v2668
  let c0_i32_1707 : BitVec 32 := 0#32
  let v2671 : BitVec 1 := Scalar.cmpi .slt v2669 c0_i32_1707
  let c0_i32_1708 : BitVec 32 := 0#32
  let v2672 : BitVec 1 := Scalar.cmpi .slt v2668 c0_i32_1708
  let v2673 : BitVec 1 := Scalar.xori v2671 v2672
  let c0_i32_1706 : BitVec 32 := 0#32
  let v2670 : BitVec 1 := Scalar.cmpi .ne v2669 c0_i32_1706
  let v2674 : BitVec 1 := Scalar.andi v2673 v2670
  let v2675 : BitVec 32 := Scalar.addi v2669 v2668
  let v2676 : BitVec 32 := Scalar.select v2674 v2675 v2669
  let c512_i32_1715 : BitVec 32 := 512#32
  let v2684 : BitVec 32 := Scalar.muli v2676 c512_i32_1715
  let c0_i32_1720 : BitVec 32 := 0#32
  ![v2666.toNat, v2684.toNat, 0]
def k0_cond6 (k0_t1 : Fin k0_t1_loop.trips) : BitVec 1 :=
  let c0_i32_55 : BitVec 32 := 0#32
  let c1_i32_56 : BitVec 32 := 1#32
  let arg10 : BitVec 32 := Scf.iv c0_i32_55 c1_i32_56 k0_t1
  let c4_i32_870 : BitVec 32 := 4#32
  let v1354 : BitVec 32 := Scalar.muli arg10 c4_i32_870
  let c2_i32_871 : BitVec 32 := 2#32
  let v1355 : BitVec 32 := Scalar.addi v1354 c2_i32_871
  let c8_i32_1275 : BitVec 32 := 8#32
  let c0_i32_1276 : BitVec 32 := 0#32
  let v1989 : BitVec 1 := Scalar.cmpi .eq c8_i32_1275 c0_i32_1276
  let c1_i32_1277 : BitVec 32 := 1#32
  let v1990 : BitVec 32 := Scalar.select v1989 c1_i32_1277 c8_i32_1275
  let v1991 : BitVec 32 := Scalar.remsi v1355 v1990
  let c0_i32_1279 : BitVec 32 := 0#32
  let v1993 : BitVec 1 := Scalar.cmpi .slt v1991 c0_i32_1279
  let c0_i32_1280 : BitVec 32 := 0#32
  let v1994 : BitVec 1 := Scalar.cmpi .slt v1990 c0_i32_1280
  let v1995 : BitVec 1 := Scalar.xori v1993 v1994
  let c0_i32_1278 : BitVec 32 := 0#32
  let v1992 : BitVec 1 := Scalar.cmpi .ne v1991 c0_i32_1278
  let v1996 : BitVec 1 := Scalar.andi v1995 v1992
  let v1997 : BitVec 32 := Scalar.addi v1991 v1990
  let v1998 : BitVec 32 := Scalar.select v1996 v1997 v1991
  let c7_i32_1281 : BitVec 32 := 7#32
  let v1999 : BitVec 1 := Scalar.cmpi .eq v1998 c7_i32_1281
  let v2000 : BitVec 32 := Scalar.extui v1999
  let c0_i32_1282 : BitVec 32 := 0#32
  let v2001 : BitVec 1 := Scalar.cmpi .ne v2000 c0_i32_1282
  v2001

def k0_off11 (k0_t1 : Fin k0_t1_loop.trips) : Fin 2 → Nat :=
  let c0_i32_55 : BitVec 32 := 0#32
  let c1_i32_56 : BitVec 32 := 1#32
  let arg10 : BitVec 32 := Scf.iv c0_i32_55 c1_i32_56 k0_t1
  let c4_i32_870 : BitVec 32 := 4#32
  let v1354 : BitVec 32 := Scalar.muli arg10 c4_i32_870
  let c2_i32_871 : BitVec 32 := 2#32
  let v1355 : BitVec 32 := Scalar.addi v1354 c2_i32_871
  let c0_i32_1697 : BitVec 32 := 0#32
  let v2651 : BitVec 1 := Scalar.cmpi .sgt v1355 c0_i32_1697
  let v2652 : BitVec 32 := Scalar.extui v2651
  let c0_i32_1698 : BitVec 32 := 0#32
  let v2653 : BitVec 1 := Scalar.cmpi .slt v1355 c0_i32_1698
  let v2654 : BitVec 32 := Scalar.extui v2653
  let v2655 : BitVec 32 := Scalar.subi v2652 v2654
  let c8_i32_1696 : BitVec 32 := 8#32
  let c0_i32_1699 : BitVec 32 := 0#32
  let v2656 : BitVec 1 := Scalar.cmpi .sgt c8_i32_1696 c0_i32_1699
  let v2657 : BitVec 32 := Scalar.extui v2656
  let c0_i32_1700 : BitVec 32 := 0#32
  let v2658 : BitVec 1 := Scalar.cmpi .slt c8_i32_1696 c0_i32_1700
  let v2659 : BitVec 32 := Scalar.extui v2658
  let v2660 : BitVec 32 := Scalar.subi v2657 v2659
  let v2661 : BitVec 1 := Scalar.cmpi .ne v2655 v2660
  let v2662 : BitVec 32 := Scalar.remsi v1355 c8_i32_1696
  let c0_i32_1701 : BitVec 32 := 0#32
  let v2663 : BitVec 1 := Scalar.cmpi .ne v2662 c0_i32_1701
  let v2664 : BitVec 1 := Scalar.andi v2661 v2663
  let v2650 : BitVec 32 := Scalar.divsi v1355 c8_i32_1696
  let c1_i32_1702 : BitVec 32 := 1#32
  let v2665 : BitVec 32 := Scalar.subi v2650 c1_i32_1702
  let v2666 : BitVec 32 := Scalar.select v2664 v2665 v2650
  let v2670 : Index := Scalar.indexCast v2666
  let c0_1707 : Index := 0#32
  ![v2670.toNat, 0]
def k0_off12 (k0_t1 : Fin k0_t1_loop.trips) : Fin 2 → Nat :=
  let c0_i32_55 : BitVec 32 := 0#32
  let c1_i32_56 : BitVec 32 := 1#32
  let arg10 : BitVec 32 := Scf.iv c0_i32_55 c1_i32_56 k0_t1
  let c4_i32_870 : BitVec 32 := 4#32
  let v1354 : BitVec 32 := Scalar.muli arg10 c4_i32_870
  let c2_i32_871 : BitVec 32 := 2#32
  let v1355 : BitVec 32 := Scalar.addi v1354 c2_i32_871
  let c0_i32_1697 : BitVec 32 := 0#32
  let v2651 : BitVec 1 := Scalar.cmpi .sgt v1355 c0_i32_1697
  let v2652 : BitVec 32 := Scalar.extui v2651
  let c0_i32_1698 : BitVec 32 := 0#32
  let v2653 : BitVec 1 := Scalar.cmpi .slt v1355 c0_i32_1698
  let v2654 : BitVec 32 := Scalar.extui v2653
  let v2655 : BitVec 32 := Scalar.subi v2652 v2654
  let c8_i32_1696 : BitVec 32 := 8#32
  let c0_i32_1699 : BitVec 32 := 0#32
  let v2656 : BitVec 1 := Scalar.cmpi .sgt c8_i32_1696 c0_i32_1699
  let v2657 : BitVec 32 := Scalar.extui v2656
  let c0_i32_1700 : BitVec 32 := 0#32
  let v2658 : BitVec 1 := Scalar.cmpi .slt c8_i32_1696 c0_i32_1700
  let v2659 : BitVec 32 := Scalar.extui v2658
  let v2660 : BitVec 32 := Scalar.subi v2657 v2659
  let v2661 : BitVec 1 := Scalar.cmpi .ne v2655 v2660
  let v2662 : BitVec 32 := Scalar.remsi v1355 c8_i32_1696
  let c0_i32_1701 : BitVec 32 := 0#32
  let v2663 : BitVec 1 := Scalar.cmpi .ne v2662 c0_i32_1701
  let v2664 : BitVec 1 := Scalar.andi v2661 v2663
  let v2650 : BitVec 32 := Scalar.divsi v1355 c8_i32_1696
  let c1_i32_1702 : BitVec 32 := 1#32
  let v2665 : BitVec 32 := Scalar.subi v2650 c1_i32_1702
  let v2666 : BitVec 32 := Scalar.select v2664 v2665 v2650
  let v2675 : Index := Scalar.indexCast v2666
  let c1024 : Index := 1024#32
  ![v2675.toNat, 1024]
def k0_cond7 (k0_t1 : Fin k0_t1_loop.trips) : BitVec 1 :=
  let c0_i32_55 : BitVec 32 := 0#32
  let c1_i32_56 : BitVec 32 := 1#32
  let arg10 : BitVec 32 := Scf.iv c0_i32_55 c1_i32_56 k0_t1
  let c4_i32_1283 : BitVec 32 := 4#32
  let v2002 : BitVec 32 := Scalar.muli arg10 c4_i32_1283
  let c3_i32_1284 : BitVec 32 := 3#32
  let v2003 : BitVec 32 := Scalar.addi v2002 c3_i32_1284
  let c4_i32_1685 : BitVec 32 := 4#32
  let v2633 : BitVec 32 := Scalar.addi v2003 c4_i32_1685
  let c128_i32_1686 : BitVec 32 := 128#32
  let v2634 : BitVec 1 := Scalar.cmpi .slt v2633 c128_i32_1686
  let v2635 : BitVec 32 := Scalar.extui v2634
  let c0_i32_1687 : BitVec 32 := 0#32
  let v2636 : BitVec 1 := Scalar.cmpi .ne v2635 c0_i32_1687
  v2636

def k0_off13 (k0_t1 : Fin k0_t1_loop.trips) : Fin 3 → Nat :=
  let c0_i32_55 : BitVec 32 := 0#32
  let c1_i32_56 : BitVec 32 := 1#32
  let arg10 : BitVec 32 := Scf.iv c0_i32_55 c1_i32_56 k0_t1
  let c4_i32_1283 : BitVec 32 := 4#32
  let v2002 : BitVec 32 := Scalar.muli arg10 c4_i32_1283
  let c3_i32_1284 : BitVec 32 := 3#32
  let v2003 : BitVec 32 := Scalar.addi v2002 c3_i32_1284
  let c4_i32_1685 : BitVec 32 := 4#32
  let v2633 : BitVec 32 := Scalar.addi v2003 c4_i32_1685
  let c0_i32_1697 : BitVec 32 := 0#32
  let v2651 : BitVec 1 := Scalar.cmpi .sgt v2633 c0_i32_1697
  let v2652 : BitVec 32 := Scalar.extui v2651
  let c0_i32_1698 : BitVec 32 := 0#32
  let v2653 : BitVec 1 := Scalar.cmpi .slt v2633 c0_i32_1698
  let v2654 : BitVec 32 := Scalar.extui v2653
  let v2655 : BitVec 32 := Scalar.subi v2652 v2654
  let c8_i32_1696 : BitVec 32 := 8#32
  let c0_i32_1699 : BitVec 32 := 0#32
  let v2656 : BitVec 1 := Scalar.cmpi .sgt c8_i32_1696 c0_i32_1699
  let v2657 : BitVec 32 := Scalar.extui v2656
  let c0_i32_1700 : BitVec 32 := 0#32
  let v2658 : BitVec 1 := Scalar.cmpi .slt c8_i32_1696 c0_i32_1700
  let v2659 : BitVec 32 := Scalar.extui v2658
  let v2660 : BitVec 32 := Scalar.subi v2657 v2659
  let v2661 : BitVec 1 := Scalar.cmpi .ne v2655 v2660
  let v2662 : BitVec 32 := Scalar.remsi v2633 c8_i32_1696
  let c0_i32_1701 : BitVec 32 := 0#32
  let v2663 : BitVec 1 := Scalar.cmpi .ne v2662 c0_i32_1701
  let v2664 : BitVec 1 := Scalar.andi v2661 v2663
  let v2650 : BitVec 32 := Scalar.divsi v2633 c8_i32_1696
  let c1_i32_1702 : BitVec 32 := 1#32
  let v2665 : BitVec 32 := Scalar.subi v2650 c1_i32_1702
  let v2666 : BitVec 32 := Scalar.select v2664 v2665 v2650
  let c8_i32_1703 : BitVec 32 := 8#32
  let c0_i32_1704 : BitVec 32 := 0#32
  let v2667 : BitVec 1 := Scalar.cmpi .eq c8_i32_1703 c0_i32_1704
  let c1_i32_1705 : BitVec 32 := 1#32
  let v2668 : BitVec 32 := Scalar.select v2667 c1_i32_1705 c8_i32_1703
  let v2669 : BitVec 32 := Scalar.remsi v2633 v2668
  let c0_i32_1707 : BitVec 32 := 0#32
  let v2671 : BitVec 1 := Scalar.cmpi .slt v2669 c0_i32_1707
  let c0_i32_1708 : BitVec 32 := 0#32
  let v2672 : BitVec 1 := Scalar.cmpi .slt v2668 c0_i32_1708
  let v2673 : BitVec 1 := Scalar.xori v2671 v2672
  let c0_i32_1706 : BitVec 32 := 0#32
  let v2670 : BitVec 1 := Scalar.cmpi .ne v2669 c0_i32_1706
  let v2674 : BitVec 1 := Scalar.andi v2673 v2670
  let v2675 : BitVec 32 := Scalar.addi v2669 v2668
  let v2676 : BitVec 32 := Scalar.select v2674 v2675 v2669
  let c512_i32_1709 : BitVec 32 := 512#32
  let v2677 : BitVec 32 := Scalar.muli v2676 c512_i32_1709
  let c0_i32_1714 : BitVec 32 := 0#32
  ![v2666.toNat, v2677.toNat, 0]
def k0_off14 (k0_t1 : Fin k0_t1_loop.trips) : Fin 3 → Nat :=
  let c0_i32_55 : BitVec 32 := 0#32
  let c1_i32_56 : BitVec 32 := 1#32
  let arg10 : BitVec 32 := Scf.iv c0_i32_55 c1_i32_56 k0_t1
  let c4_i32_1283 : BitVec 32 := 4#32
  let v2002 : BitVec 32 := Scalar.muli arg10 c4_i32_1283
  let c3_i32_1284 : BitVec 32 := 3#32
  let v2003 : BitVec 32 := Scalar.addi v2002 c3_i32_1284
  let c4_i32_1685 : BitVec 32 := 4#32
  let v2633 : BitVec 32 := Scalar.addi v2003 c4_i32_1685
  let c0_i32_1697 : BitVec 32 := 0#32
  let v2651 : BitVec 1 := Scalar.cmpi .sgt v2633 c0_i32_1697
  let v2652 : BitVec 32 := Scalar.extui v2651
  let c0_i32_1698 : BitVec 32 := 0#32
  let v2653 : BitVec 1 := Scalar.cmpi .slt v2633 c0_i32_1698
  let v2654 : BitVec 32 := Scalar.extui v2653
  let v2655 : BitVec 32 := Scalar.subi v2652 v2654
  let c8_i32_1696 : BitVec 32 := 8#32
  let c0_i32_1699 : BitVec 32 := 0#32
  let v2656 : BitVec 1 := Scalar.cmpi .sgt c8_i32_1696 c0_i32_1699
  let v2657 : BitVec 32 := Scalar.extui v2656
  let c0_i32_1700 : BitVec 32 := 0#32
  let v2658 : BitVec 1 := Scalar.cmpi .slt c8_i32_1696 c0_i32_1700
  let v2659 : BitVec 32 := Scalar.extui v2658
  let v2660 : BitVec 32 := Scalar.subi v2657 v2659
  let v2661 : BitVec 1 := Scalar.cmpi .ne v2655 v2660
  let v2662 : BitVec 32 := Scalar.remsi v2633 c8_i32_1696
  let c0_i32_1701 : BitVec 32 := 0#32
  let v2663 : BitVec 1 := Scalar.cmpi .ne v2662 c0_i32_1701
  let v2664 : BitVec 1 := Scalar.andi v2661 v2663
  let v2650 : BitVec 32 := Scalar.divsi v2633 c8_i32_1696
  let c1_i32_1702 : BitVec 32 := 1#32
  let v2665 : BitVec 32 := Scalar.subi v2650 c1_i32_1702
  let v2666 : BitVec 32 := Scalar.select v2664 v2665 v2650
  let c8_i32_1703 : BitVec 32 := 8#32
  let c0_i32_1704 : BitVec 32 := 0#32
  let v2667 : BitVec 1 := Scalar.cmpi .eq c8_i32_1703 c0_i32_1704
  let c1_i32_1705 : BitVec 32 := 1#32
  let v2668 : BitVec 32 := Scalar.select v2667 c1_i32_1705 c8_i32_1703
  let v2669 : BitVec 32 := Scalar.remsi v2633 v2668
  let c0_i32_1707 : BitVec 32 := 0#32
  let v2671 : BitVec 1 := Scalar.cmpi .slt v2669 c0_i32_1707
  let c0_i32_1708 : BitVec 32 := 0#32
  let v2672 : BitVec 1 := Scalar.cmpi .slt v2668 c0_i32_1708
  let v2673 : BitVec 1 := Scalar.xori v2671 v2672
  let c0_i32_1706 : BitVec 32 := 0#32
  let v2670 : BitVec 1 := Scalar.cmpi .ne v2669 c0_i32_1706
  let v2674 : BitVec 1 := Scalar.andi v2673 v2670
  let v2675 : BitVec 32 := Scalar.addi v2669 v2668
  let v2676 : BitVec 32 := Scalar.select v2674 v2675 v2669
  let c512_i32_1715 : BitVec 32 := 512#32
  let v2684 : BitVec 32 := Scalar.muli v2676 c512_i32_1715
  let c0_i32_1720 : BitVec 32 := 0#32
  ![v2666.toNat, v2684.toNat, 0]
def k0_cond8 (k0_t1 : Fin k0_t1_loop.trips) : BitVec 1 :=
  let c0_i32_55 : BitVec 32 := 0#32
  let c1_i32_56 : BitVec 32 := 1#32
  let arg10 : BitVec 32 := Scf.iv c0_i32_55 c1_i32_56 k0_t1
  let c4_i32_1283 : BitVec 32 := 4#32
  let v2002 : BitVec 32 := Scalar.muli arg10 c4_i32_1283
  let c3_i32_1284 : BitVec 32 := 3#32
  let v2003 : BitVec 32 := Scalar.addi v2002 c3_i32_1284
  let c8_i32_1688 : BitVec 32 := 8#32
  let c0_i32_1689 : BitVec 32 := 0#32
  let v2637 : BitVec 1 := Scalar.cmpi .eq c8_i32_1688 c0_i32_1689
  let c1_i32_1690 : BitVec 32 := 1#32
  let v2638 : BitVec 32 := Scalar.select v2637 c1_i32_1690 c8_i32_1688
  let v2639 : BitVec 32 := Scalar.remsi v2003 v2638
  let c0_i32_1692 : BitVec 32 := 0#32
  let v2641 : BitVec 1 := Scalar.cmpi .slt v2639 c0_i32_1692
  let c0_i32_1693 : BitVec 32 := 0#32
  let v2642 : BitVec 1 := Scalar.cmpi .slt v2638 c0_i32_1693
  let v2643 : BitVec 1 := Scalar.xori v2641 v2642
  let c0_i32_1691 : BitVec 32 := 0#32
  let v2640 : BitVec 1 := Scalar.cmpi .ne v2639 c0_i32_1691
  let v2644 : BitVec 1 := Scalar.andi v2643 v2640
  let v2645 : BitVec 32 := Scalar.addi v2639 v2638
  let v2646 : BitVec 32 := Scalar.select v2644 v2645 v2639
  let c7_i32_1694 : BitVec 32 := 7#32
  let v2647 : BitVec 1 := Scalar.cmpi .eq v2646 c7_i32_1694
  let v2648 : BitVec 32 := Scalar.extui v2647
  let c0_i32_1695 : BitVec 32 := 0#32
  let v2649 : BitVec 1 := Scalar.cmpi .ne v2648 c0_i32_1695
  v2649

def k0_off15 (k0_t1 : Fin k0_t1_loop.trips) : Fin 2 → Nat :=
  let c0_i32_55 : BitVec 32 := 0#32
  let c1_i32_56 : BitVec 32 := 1#32
  let arg10 : BitVec 32 := Scf.iv c0_i32_55 c1_i32_56 k0_t1
  let c4_i32_1283 : BitVec 32 := 4#32
  let v2002 : BitVec 32 := Scalar.muli arg10 c4_i32_1283
  let c3_i32_1284 : BitVec 32 := 3#32
  let v2003 : BitVec 32 := Scalar.addi v2002 c3_i32_1284
  let c0_i32_1697 : BitVec 32 := 0#32
  let v2651 : BitVec 1 := Scalar.cmpi .sgt v2003 c0_i32_1697
  let v2652 : BitVec 32 := Scalar.extui v2651
  let c0_i32_1698 : BitVec 32 := 0#32
  let v2653 : BitVec 1 := Scalar.cmpi .slt v2003 c0_i32_1698
  let v2654 : BitVec 32 := Scalar.extui v2653
  let v2655 : BitVec 32 := Scalar.subi v2652 v2654
  let c8_i32_1696 : BitVec 32 := 8#32
  let c0_i32_1699 : BitVec 32 := 0#32
  let v2656 : BitVec 1 := Scalar.cmpi .sgt c8_i32_1696 c0_i32_1699
  let v2657 : BitVec 32 := Scalar.extui v2656
  let c0_i32_1700 : BitVec 32 := 0#32
  let v2658 : BitVec 1 := Scalar.cmpi .slt c8_i32_1696 c0_i32_1700
  let v2659 : BitVec 32 := Scalar.extui v2658
  let v2660 : BitVec 32 := Scalar.subi v2657 v2659
  let v2661 : BitVec 1 := Scalar.cmpi .ne v2655 v2660
  let v2662 : BitVec 32 := Scalar.remsi v2003 c8_i32_1696
  let c0_i32_1701 : BitVec 32 := 0#32
  let v2663 : BitVec 1 := Scalar.cmpi .ne v2662 c0_i32_1701
  let v2664 : BitVec 1 := Scalar.andi v2661 v2663
  let v2650 : BitVec 32 := Scalar.divsi v2003 c8_i32_1696
  let c1_i32_1702 : BitVec 32 := 1#32
  let v2665 : BitVec 32 := Scalar.subi v2650 c1_i32_1702
  let v2666 : BitVec 32 := Scalar.select v2664 v2665 v2650
  let v2670 : Index := Scalar.indexCast v2666
  let c0_1707 : Index := 0#32
  ![v2670.toNat, 0]
def k0_off16 (k0_t1 : Fin k0_t1_loop.trips) : Fin 2 → Nat :=
  let c0_i32_55 : BitVec 32 := 0#32
  let c1_i32_56 : BitVec 32 := 1#32
  let arg10 : BitVec 32 := Scf.iv c0_i32_55 c1_i32_56 k0_t1
  let c4_i32_1283 : BitVec 32 := 4#32
  let v2002 : BitVec 32 := Scalar.muli arg10 c4_i32_1283
  let c3_i32_1284 : BitVec 32 := 3#32
  let v2003 : BitVec 32 := Scalar.addi v2002 c3_i32_1284
  let c0_i32_1697 : BitVec 32 := 0#32
  let v2651 : BitVec 1 := Scalar.cmpi .sgt v2003 c0_i32_1697
  let v2652 : BitVec 32 := Scalar.extui v2651
  let c0_i32_1698 : BitVec 32 := 0#32
  let v2653 : BitVec 1 := Scalar.cmpi .slt v2003 c0_i32_1698
  let v2654 : BitVec 32 := Scalar.extui v2653
  let v2655 : BitVec 32 := Scalar.subi v2652 v2654
  let c8_i32_1696 : BitVec 32 := 8#32
  let c0_i32_1699 : BitVec 32 := 0#32
  let v2656 : BitVec 1 := Scalar.cmpi .sgt c8_i32_1696 c0_i32_1699
  let v2657 : BitVec 32 := Scalar.extui v2656
  let c0_i32_1700 : BitVec 32 := 0#32
  let v2658 : BitVec 1 := Scalar.cmpi .slt c8_i32_1696 c0_i32_1700
  let v2659 : BitVec 32 := Scalar.extui v2658
  let v2660 : BitVec 32 := Scalar.subi v2657 v2659
  let v2661 : BitVec 1 := Scalar.cmpi .ne v2655 v2660
  let v2662 : BitVec 32 := Scalar.remsi v2003 c8_i32_1696
  let c0_i32_1701 : BitVec 32 := 0#32
  let v2663 : BitVec 1 := Scalar.cmpi .ne v2662 c0_i32_1701
  let v2664 : BitVec 1 := Scalar.andi v2661 v2663
  let v2650 : BitVec 32 := Scalar.divsi v2003 c8_i32_1696
  let c1_i32_1702 : BitVec 32 := 1#32
  let v2665 : BitVec 32 := Scalar.subi v2650 c1_i32_1702
  let v2666 : BitVec 32 := Scalar.select v2664 v2665 v2650
  let v2675 : Index := Scalar.indexCast v2666
  let c1024 : Index := 1024#32
  ![v2675.toNat, 1024]
abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== KernelIdeal.lean ====
variable {F : FTy → Type} [FloatOps F] [Named F]
def κ : String → Option EReal := fun
  | "neg" => some ⊥
  | _ => none
-- ==== ReferenceIdeal.lean ====
abbrev S16x4096x1024 : Shape := ⟨3, ![16, 4096, 1024]⟩
abbrev S16x4096 : Shape := ⟨2, ![16, 4096]⟩
abbrev S16x4096x1 : Shape := ⟨3, ![16, 4096, 1]⟩
abbrev S_ : Shape := ⟨0, ![]⟩
abbrev S16x1024 : Shape := ⟨2, ![16, 1024]⟩
abbrev S16 : Shape := ⟨1, ![16]⟩
abbrev S16x1 : Shape := ⟨2, ![16, 1]⟩
abbrev S16x2048 : Shape := ⟨2, ![16, 2048]⟩

abbrev nBuf : Space → Nat
  | .hbm => 23
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096, .i1⟩
  | .hbm, ⟨2, _⟩ => ⟨S16x4096x1, .i1⟩
  | .hbm, ⟨3, _⟩ => ⟨S_, .f32⟩
  | .hbm, ⟨4, _⟩ => ⟨S16x4096x1024, .i1⟩
  | .hbm, ⟨5, _⟩ => ⟨S16x4096x1024, .f32⟩
  | .hbm, ⟨6, _⟩ => ⟨S16x4096x1024, .f32⟩
  | .hbm, ⟨7, _⟩ => ⟨S_, .f32⟩
  | .hbm, ⟨8, _⟩ => ⟨S16x1024, .f32⟩
  | .hbm, ⟨9, _⟩ => ⟨S16x4096, .i32⟩
  | .hbm, ⟨10, _⟩ => ⟨S_, .i32⟩
  | .hbm, ⟨11, _⟩ => ⟨S16, .i32⟩
  | .hbm, ⟨12, _⟩ => ⟨S16, .f32⟩
  | .hbm, ⟨13, _⟩ => ⟨S_, .f32⟩
  | .hbm, ⟨14, _⟩ => ⟨S16x4096x1024, .i1⟩
  | .hbm, ⟨15, _⟩ => ⟨S16x4096x1024, .f32⟩
  | .hbm, ⟨16, _⟩ => ⟨S16x4096x1024, .f32⟩
  | .hbm, ⟨17, _⟩ => ⟨S_, .f32⟩
  | .hbm, ⟨18, _⟩ => ⟨S16x1024, .f32⟩
  | .hbm, ⟨19, _⟩ => ⟨S16x1, .f32⟩
  | .hbm, ⟨20, _⟩ => ⟨S16x1024, .f32⟩
  | .hbm, ⟨21, _⟩ => ⟨S16x1024, .f32⟩
  | .hbm, ⟨22, _⟩ => ⟨S16x2048, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_call0_v0 : Ref sig .tc := ⟨.hbm, 4, rfl⟩
abbrev main_call0_v1 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_call1_v0 : Ref sig .tc := ⟨.hbm, 14, rfl⟩
abbrev main_call1_v1 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== Proof.HandIdeal.Names.lean ====
/-
  The names the proof of the kernel body speaks in. The body streams the 128 row chunks of the 16 batches
  (8 chunks of 512 rows a batch) through four slots of a feature buffer and four slots of a mask buffer; trip `t` of
  its loop works on chunks `4t, …, 4t + 3`, chunk `4t + j` in slot `j`. Here: the chunks of the two arrays, the slots
  and the semaphore cells, the equations that turn the printed slices into them, and the closed forms of the
  conditions and offsets the body computes from the trip number.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.KitQuiescent
public import Idealize.ShloMosaic.Lib.Ring
public import Idealize.ShloMosaic.Lib.Affine
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The operands -/

/-- The mask words, one per lane, in HBM; the features in HBM; the two ring buffers; the running maximum, sum and count. -/
abbrev mskM : Memref sig .tc .hbm S16x4096x128 .i8 := Memref.whole main_v2
abbrev ftM : Memref sig .tc .hbm S16x4096x1024 .f32 := Memref.whole main_arg0
abbrev fbM : Memref sig .tc .vmem S4x512x1024 .f32 := Memref.whole cc0_scratch0
abbrev mbM : Memref sig .tc .vmem S4x512x128 .i8 := Memref.whole cc0_scratch1
abbrev mxM : Memref sig .tc .vmem S1x1024 .f32 := Memref.whole cc0_scratch2
abbrev smM : Memref sig .tc .vmem S1x1024 .f32 := Memref.whole cc0_scratch3
abbrev ctM : Memref sig .tc .smem S1 .f32 := Memref.whole cc0_scratch4

/-! ## Chunks, slots, cells -/

/-- Where slot `j`'s chunk of trip `t` starts: chunk `4t + j` is rows `512 · ((4t + j) % 8)` on of batch `(4t + j) / 8`. -/
abbrev chOff (j : Fin 4) (t : Fin 32) : Fin 3 → Nat := ![(4 * t.val + j.val) / 8, 512 * ((4 * t.val + j.val) % 8), 0]
theorem chOff_inb_f (j : Fin 4) (t : Fin 32) : ∀ a, chOff j t a + S1x512x1024.size a ≤ S16x4096x1024.size a := by
  have := j.isLt; have := t.isLt; intro a; fin_cases a
  · show (4 * t.val + j.val) / 8 + 1 ≤ 16; omega
  · show 512 * ((4 * t.val + j.val) % 8) + 512 ≤ 4096; omega
  · show 0 + 1024 ≤ 1024; omega
theorem chOff_inb_m (j : Fin 4) (t : Fin 32) : ∀ a, chOff j t a + S1x512x128.size a ≤ S16x4096x128.size a := by
  have := j.isLt; have := t.isLt; intro a; fin_cases a
  · show (4 * t.val + j.val) / 8 + 1 ≤ 16; omega
  · show 512 * ((4 * t.val + j.val) % 8) + 512 ≤ 4096; omega
  · show 0 + 128 ≤ 128; omega
abbrev slOff (j : Fin 4) : Fin 3 → Nat := ![j.val, 0, 0]
theorem slOff_inb_f (j : Fin 4) : ∀ a, slOff j a + S1x512x1024.size a ≤ S4x512x1024.size a := by
  have := j.isLt; intro a; fin_cases a
  · show j.val + 1 ≤ 4; omega
  · show 0 + 512 ≤ 512; omega
  · show 0 + 1024 ≤ 1024; omega
theorem slOff_inb_m (j : Fin 4) : ∀ a, slOff j a + S1x512x128.size a ≤ S4x512x128.size a := by
  have := j.isLt; intro a; fin_cases a
  · show j.val + 1 ≤ 4; omega
  · show 0 + 512 ≤ 512; omega
  · show 0 + 128 ≤ 128; omega
abbrev smOff (j : Fin 4) : Fin 1 → Nat := ![j.val]
theorem smOff_inb (j : Fin 4) : ∀ a, smOff j a + S1.size a ≤ S4.size a := by
  have := j.isLt; intro a; fin_cases a; show j.val + 1 ≤ 4; omega

/-- Slot `j`'s chunk of trip `t`, of the features and of the mask words. -/
def fch (j : Fin 4) (t : Fin 32) : Memref sig .tc .hbm S512x1024 .f32 :=
  (ftM.slice (Rect.unit (s := S16x4096x1024) (chOff j t) S1x512x1024.size (chOff_inb_f j t)) (fun _ => rfl)).squeeze S512x1024 squeezes_S1x512x1024_S512x1024
def mch (j : Fin 4) (t : Fin 32) : Memref sig .tc .hbm S512x128 .i8 :=
  (mskM.slice (Rect.unit (s := S16x4096x128) (chOff j t) S1x512x128.size (chOff_inb_m j t)) (fun _ => rfl)).squeeze S512x128 squeezes_S1x512x128_S512x128
/-- Slot `j` of the feature buffer and of the mask buffer. -/
def fsl (j : Fin 4) : Memref sig .tc .vmem S512x1024 .f32 :=
  (fbM.slice (Rect.unit (s := S4x512x1024) (slOff j) S1x512x1024.size (slOff_inb_f j)) (fun _ => rfl)).squeeze S512x1024 squeezes_S1x512x1024_S512x1024
def msl (j : Fin 4) : Memref sig .tc .vmem S512x128 .i8 :=
  (mbM.slice (Rect.unit (s := S4x512x128) (slOff j) S1x512x128.size (slOff_inb_m j)) (fun _ => rfl)).squeeze S512x128 squeezes_S1x512x128_S512x128
/-- Slot `j`'s semaphore cell, of the feature ring and of the mask ring. -/
def fsm (j : Fin 4) : DmaSems sig S_ := (cc0_scratch5.slice (Rect.unit (s := S4) (smOff j) S1.size (smOff_inb j))).squeeze S_ squeezes_S1_S_
def msm (j : Fin 4) : DmaSems sig S_ := (cc0_scratch6.slice (Rect.unit (s := S4) (smOff j) S1.size (smOff_inb j))).squeeze S_ squeezes_S1_S_

instance (j : Fin 4) : ClosedOff (slOff j) := ⟨slOff j, rfl⟩
instance (j : Fin 4) (t : Fin 32) : ClosedOff (chOff j t) := ⟨chOff j t, rfl⟩

/-! ## The trip's conditions and offsets in closed form -/

theorem trips_eq : k0_t1_loop.trips = 32 := by decide +kernel

/-- A trip starts the next trip's four chunks unless it is the last. -/
theorem cond_next : ∀ k : Fin k0_t1_loop.trips, k.val < 31 →
    k0_cond1 k = 1#1 ∧ k0_cond3 k = 1#1 ∧ k0_cond5 k = 1#1 ∧ k0_cond7 k = 1#1 := by decide +kernel
theorem cond_last : ∀ k : Fin k0_t1_loop.trips, ¬ k.val < 31 →
    ¬ k0_cond1 k = 1#1 ∧ ¬ k0_cond3 k = 1#1 ∧ ¬ k0_cond5 k = 1#1 ∧ ¬ k0_cond7 k = 1#1 := by decide +kernel
/-- Chunks `4t`, `4t + 1`, `4t + 2` are never a batch's last; chunk `4t + 3` is when `t` is odd. -/
theorem cond_mid : ∀ k : Fin k0_t1_loop.trips, ¬ k0_cond2 k = 1#1 ∧ ¬ k0_cond4 k = 1#1 ∧ ¬ k0_cond6 k = 1#1 := by decide +kernel
theorem cond_odd : ∀ k : Fin k0_t1_loop.trips, k.val % 2 = 1 → k0_cond8 k = 1#1 := by decide +kernel
theorem cond_even : ∀ k : Fin k0_t1_loop.trips, ¬ k.val % 2 = 1 → ¬ k0_cond8 k = 1#1 := by decide +kernel

/-- The chunks a trip starts are the next trip's; -/
theorem off_next : ∀ k : Fin k0_t1_loop.trips, k.val < 31 →
    k0_off1 k = chOff 0 (Ring.bk 32 (k.val + 1)) ∧ k0_off2 k = chOff 0 (Ring.bk 32 (k.val + 1))
    ∧ k0_off5 k = chOff 1 (Ring.bk 32 (k.val + 1)) ∧ k0_off6 k = chOff 1 (Ring.bk 32 (k.val + 1))
    ∧ k0_off9 k = chOff 2 (Ring.bk 32 (k.val + 1)) ∧ k0_off10 k = chOff 2 (Ring.bk 32 (k.val + 1))
    ∧ k0_off13 k = chOff 3 (Ring.bk 32 (k.val + 1)) ∧ k0_off14 k = chOff 3 (Ring.bk 32 (k.val + 1)) := by decide +kernel
/-- the row an odd trip writes is its batch's, in two halves. -/
theorem off_out : ∀ k : Fin k0_t1_loop.trips, k.val % 2 = 1 →
    k0_off15 k = ![k.val / 2, 0] ∧ k0_off16 k = ![k.val / 2, 1024] := by decide +kernel

/-! ## The printed slices are these names -/

section Canon

theorem fsm_congr {off : Fin 1 → Nat} {j : Fin 4} (e : off = smOff j) (hh) :
    (cc0_scratch5.slice (Rect.unit (s := S4) off S1.size hh)).squeeze S_ squeezes_S1_S_ = fsm j :=
  congrArg (fun A : DmaSems sig S1 => A.squeeze S_ squeezes_S1_S_) (SemArray.slice_unit_congr _ e _ _)
theorem msm_congr {off : Fin 1 → Nat} {j : Fin 4} (e : off = smOff j) (hh) :
    (cc0_scratch6.slice (Rect.unit (s := S4) off S1.size hh)).squeeze S_ squeezes_S1_S_ = msm j :=
  congrArg (fun A : DmaSems sig S1 => A.squeeze S_ squeezes_S1_S_) (SemArray.slice_unit_congr _ e _ _)
theorem fsl_congr {off : Fin 3 → Nat} {j : Fin 4} (e : off = slOff j) (hh hs) :
    (fbM.slice (Rect.unit (s := S4x512x1024) off S1x512x1024.size hh) hs).squeeze S512x1024 squeezes_S1x512x1024_S512x1024 = fsl j :=
  congrArg (fun M : Memref sig .tc .vmem S1x512x1024 .f32 => M.squeeze S512x1024 squeezes_S1x512x1024_S512x1024) (Memref.slice_unit_congr _ e _ _ _ _)
theorem msl_congr {off : Fin 3 → Nat} {j : Fin 4} (e : off = slOff j) (hh hs) :
    (mbM.slice (Rect.unit (s := S4x512x128) off S1x512x128.size hh) hs).squeeze S512x128 squeezes_S1x512x128_S512x128 = msl j :=
  congrArg (fun M : Memref sig .tc .vmem S1x512x128 .i8 => M.squeeze S512x128 squeezes_S1x512x128_S512x128) (Memref.slice_unit_congr _ e _ _ _ _)
theorem fch_congr {off : Fin 3 → Nat} {j : Fin 4} {t : Fin 32} (e : off = chOff j t) (hh hs) :
    (ftM.slice (Rect.unit (s := S16x4096x1024) off S1x512x1024.size hh) hs).squeeze S512x1024 squeezes_S1x512x1024_S512x1024 = fch j t :=
  congrArg (fun M : Memref sig .tc .hbm S1x512x1024 .f32 => M.squeeze S512x1024 squeezes_S1x512x1024_S512x1024) (Memref.slice_unit_congr _ e _ _ _ _)
theorem mch_congr {off : Fin 3 → Nat} {j : Fin 4} {t : Fin 32} (e : off = chOff j t) (hh hs) :
    (mskM.slice (Rect.unit (s := S16x4096x128) off S1x512x128.size hh) hs).squeeze S512x128 squeezes_S1x512x128_S512x128 = mch j t :=
  congrArg (fun M : Memref sig .tc .hbm S1x512x128 .i8 => M.squeeze S512x128 squeezes_S1x512x128_S512x128) (Memref.slice_unit_congr _ e _ _ _ _)

/-- Cells. -/
@[sl_canon] theorem fsm0 (hh) : (cc0_scratch5.slice (Rect.unit (s := S4) ![0] S1.size hh)).squeeze S_ squeezes_S1_S_ = fsm 0 := fsm_congr (by decide) _
@[sl_canon] theorem fsm1 (hh) : (cc0_scratch5.slice (Rect.unit (s := S4) ![1] S1.size hh)).squeeze S_ squeezes_S1_S_ = fsm 1 := fsm_congr (by decide) _
@[sl_canon] theorem fsm2 (hh) : (cc0_scratch5.slice (Rect.unit (s := S4) ![2] S1.size hh)).squeeze S_ squeezes_S1_S_ = fsm 2 := fsm_congr (by decide) _
@[sl_canon] theorem fsm3 (hh) : (cc0_scratch5.slice (Rect.unit (s := S4) ![3] S1.size hh)).squeeze S_ squeezes_S1_S_ = fsm 3 := fsm_congr (by decide) _
@[sl_canon] theorem msm0 (hh) : (cc0_scratch6.slice (Rect.unit (s := S4) ![0] S1.size hh)).squeeze S_ squeezes_S1_S_ = msm 0 := msm_congr (by decide) _
@[sl_canon] theorem msm1 (hh) : (cc0_scratch6.slice (Rect.unit (s := S4) ![1] S1.size hh)).squeeze S_ squeezes_S1_S_ = msm 1 := msm_congr (by decide) _
@[sl_canon] theorem msm2 (hh) : (cc0_scratch6.slice (Rect.unit (s := S4) ![2] S1.size hh)).squeeze S_ squeezes_S1_S_ = msm 2 := msm_congr (by decide) _
@[sl_canon] theorem msm3 (hh) : (cc0_scratch6.slice (Rect.unit (s := S4) ![3] S1.size hh)).squeeze S_ squeezes_S1_S_ = msm 3 := msm_congr (by decide) _
/-- Slots. -/
@[sl_canon] theorem fsl0 (hh hs) : (fbM.slice (Rect.unit (s := S4x512x1024) ![0, 0, 0] S1x512x1024.size hh) hs).squeeze S512x1024 squeezes_S1x512x1024_S512x1024 = fsl 0 := fsl_congr (by decide) _ _
@[sl_canon] theorem fsl1 (hh hs) : (fbM.slice (Rect.unit (s := S4x512x1024) ![1, 0, 0] S1x512x1024.size hh) hs).squeeze S512x1024 squeezes_S1x512x1024_S512x1024 = fsl 1 := fsl_congr (by decide) _ _
@[sl_canon] theorem fsl2 (hh hs) : (fbM.slice (Rect.unit (s := S4x512x1024) ![2, 0, 0] S1x512x1024.size hh) hs).squeeze S512x1024 squeezes_S1x512x1024_S512x1024 = fsl 2 := fsl_congr (by decide) _ _
@[sl_canon] theorem fsl3 (hh hs) : (fbM.slice (Rect.unit (s := S4x512x1024) ![3, 0, 0] S1x512x1024.size hh) hs).squeeze S512x1024 squeezes_S1x512x1024_S512x1024 = fsl 3 := fsl_congr (by decide) _ _
@[sl_canon] theorem msl0 (hh hs) : (mbM.slice (Rect.unit (s := S4x512x128) ![0, 0, 0] S1x512x128.size hh) hs).squeeze S512x128 squeezes_S1x512x128_S512x128 = msl 0 := msl_congr (by decide) _ _
@[sl_canon] theorem msl1 (hh hs) : (mbM.slice (Rect.unit (s := S4x512x128) ![1, 0, 0] S1x512x128.size hh) hs).squeeze S512x128 squeezes_S1x512x128_S512x128 = msl 1 := msl_congr (by decide) _ _
@[sl_canon] theorem msl2 (hh hs) : (mbM.slice (Rect.unit (s := S4x512x128) ![2, 0, 0] S1x512x128.size hh) hs).squeeze S512x128 squeezes_S1x512x128_S512x128 = msl 2 := msl_congr (by decide) _ _
@[sl_canon] theorem msl3 (hh hs) : (mbM.slice (Rect.unit (s := S4x512x128) ![3, 0, 0] S1x512x128.size hh) hs).squeeze S512x128 squeezes_S1x512x128_S512x128 = msl 3 := msl_congr (by decide) _ _
/-- The chunks started before the loop: trip 0's (the first is also what every wait names as its source). -/
@[sl_canon] theorem fchL0 (hh hs) : (ftM.slice (Rect.unit (s := S16x4096x1024) ![0, 0, 0] S1x512x1024.size hh) hs).squeeze S512x1024 squeezes_S1x512x1024_S512x1024 = fch 0 0 := fch_congr (by decide) _ _
@[sl_canon] theorem fchL1 (hh hs) : (ftM.slice (Rect.unit (s := S16x4096x1024) ![0, 512, 0] S1x512x1024.size hh) hs).squeeze S512x1024 squeezes_S1x512x1024_S512x1024 = fch 1 0 := fch_congr (by decide) _ _
@[sl_canon] theorem fchL2 (hh hs) : (ftM.slice (Rect.unit (s := S16x4096x1024) ![0, 1024, 0] S1x512x1024.size hh) hs).squeeze S512x1024 squeezes_S1x512x1024_S512x1024 = fch 2 0 := fch_congr (by decide) _ _
@[sl_canon] theorem fchL3 (hh hs) : (ftM.slice (Rect.unit (s := S16x4096x1024) ![0, 1536, 0] S1x512x1024.size hh) hs).squeeze S512x1024 squeezes_S1x512x1024_S512x1024 = fch 3 0 := fch_congr (by decide) _ _
@[sl_canon] theorem mchL0 (hh hs) : (mskM.slice (Rect.unit (s := S16x4096x128) ![0, 0, 0] S1x512x128.size hh) hs).squeeze S512x128 squeezes_S1x512x128_S512x128 = mch 0 0 := mch_congr (by decide) _ _
@[sl_canon] theorem mchL1 (hh hs) : (mskM.slice (Rect.unit (s := S16x4096x128) ![0, 512, 0] S1x512x128.size hh) hs).squeeze S512x128 squeezes_S1x512x128_S512x128 = mch 1 0 := mch_congr (by decide) _ _
@[sl_canon] theorem mchL2 (hh hs) : (mskM.slice (Rect.unit (s := S16x4096x128) ![0, 1024, 0] S1x512x128.size hh) hs).squeeze S512x128 squeezes_S1x512x128_S512x128 = mch 2 0 := mch_congr (by decide) _ _
@[sl_canon] theorem mchL3 (hh hs) : (mskM.slice (Rect.unit (s := S16x4096x128) ![0, 1536, 0] S1x512x128.size hh) hs).squeeze S512x128 squeezes_S1x512x128_S512x128 = mch 3 0 := mch_congr (by decide) _ _
/-- The chunks a trip starts: the next trip's. -/
@[sl_canon] theorem fchN0 (k : Fin k0_t1_loop.trips) (h : k.val < 31) (hh hs) : (ftM.slice (Rect.unit (s := S16x4096x1024) (k0_off1 k) S1x512x1024.size hh) hs).squeeze S512x1024 squeezes_S1x512x1024_S512x1024 = fch 0 (Ring.bk 32 (k.val + 1)) := fch_congr (off_next k h).1 _ _
@[sl_canon] theorem mchN0 (k : Fin k0_t1_loop.trips) (h : k.val < 31) (hh hs) : (mskM.slice (Rect.unit (s := S16x4096x128) (k0_off2 k) S1x512x128.size hh) hs).squeeze S512x128 squeezes_S1x512x128_S512x128 = mch 0 (Ring.bk 32 (k.val + 1)) := mch_congr (off_next k h).2.1 _ _
@[sl_canon] theorem fchN1 (k : Fin k0_t1_loop.trips) (h : k.val < 31) (hh hs) : (ftM.slice (Rect.unit (s := S16x4096x1024) (k0_off5 k) S1x512x1024.size hh) hs).squeeze S512x1024 squeezes_S1x512x1024_S512x1024 = fch 1 (Ring.bk 32 (k.val + 1)) := fch_congr (off_next k h).2.2.1 _ _
@[sl_canon] theorem mchN1 (k : Fin k0_t1_loop.trips) (h : k.val < 31) (hh hs) : (mskM.slice (Rect.unit (s := S16x4096x128) (k0_off6 k) S1x512x128.size hh) hs).squeeze S512x128 squeezes_S1x512x128_S512x128 = mch 1 (Ring.bk 32 (k.val + 1)) := mch_congr (off_next k h).2.2.2.1 _ _
@[sl_canon] theorem fchN2 (k : Fin k0_t1_loop.trips) (h : k.val < 31) (hh hs) : (ftM.slice (Rect.unit (s := S16x4096x1024) (k0_off9 k) S1x512x1024.size hh) hs).squeeze S512x1024 squeezes_S1x512x1024_S512x1024 = fch 2 (Ring.bk 32 (k.val + 1)) := fch_congr (off_next k h).2.2.2.2.1 _ _
@[sl_canon] theorem mchN2 (k : Fin k0_t1_loop.trips) (h : k.val < 31) (hh hs) : (mskM.slice (Rect.unit (s := S16x4096x128) (k0_off10 k) S1x512x128.size hh) hs).squeeze S512x128 squeezes_S1x512x128_S512x128 = mch 2 (Ring.bk 32 (k.val + 1)) := mch_congr (off_next k h).2.2.2.2.2.1 _ _
@[sl_canon] theorem fchN3 (k : Fin k0_t1_loop.trips) (h : k.val < 31) (hh hs) : (ftM.slice (Rect.unit (s := S16x4096x1024) (k0_off13 k) S1x512x1024.size hh) hs).squeeze S512x1024 squeezes_S1x512x1024_S512x1024 = fch 3 (Ring.bk 32 (k.val + 1)) := fch_congr (off_next k h).2.2.2.2.2.2.1 _ _
@[sl_canon] theorem mchN3 (k : Fin k0_t1_loop.trips) (h : k.val < 31) (hh hs) : (mskM.slice (Rect.unit (s := S16x4096x128) (k0_off14 k) S1x512x128.size hh) hs).squeeze S512x128 squeezes_S1x512x128_S512x128 = mch 3 (Ring.bk 32 (k.val + 1)) := mch_congr (off_next k h).2.2.2.2.2.2.2 _ _

end Canon

end Cert.KernelIdeal.Hand

end
-- ==== Proof.HandIdeal.Pieces.lean ====
/-
  The resources of the kernel body: a chunk at home in HBM, a slot held, a slot's cell at zero, a slot in flight
  with a chunk; and what the loop holds before each trip.
-/
module

public import proofs.«01_k».proof.Proof.HandIdeal.Names
public import Idealize.ShloMosaic.Lib.Ring.Trips

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The proof's algebra: the pipeline library's, beside the counters the kernel's own transfers ride on. -/
abbrev UU (nD : Nat) (τ : Topo) : Type := UR sig nD τ × Counters
local notation "𝕄" => MT nD τ sig Unit (Elt F) ℕ (UU nD τ) ℕ
abbrev 𝒱₀ : Variants := Variants.none

section Pieces
variable (c : Dev nD) (XF : Buf (Elt F) (ftM.view.loc (c : Thread nD τ))) (XM : Buf (Elt F) (mskM.view.loc (c : Thread nD τ)))

/-- Slot `j`'s cells at zero. -/
abbrev fcellP (j : Fin 4) : sProp 𝕄 := semVal ((c : Thread nD τ), SemLoc.dma (fsm j).sem) 0
abbrev mcellP (j : Fin 4) : sProp 𝕄 := semVal ((c : Thread nD τ), SemLoc.dma (msm j).sem) 0
/-- Slot `j` held, of the feature buffer and of the mask buffer. -/
abbrev fslotP (j : Fin 4) (f : Buf (Elt F) ((fsl j).view.loc (c : Thread nD τ))) : sProp 𝕄 :=
  (fsl j).view.loc (c : Thread nD τ) ↦[(fsl j).view.set]{fullShare} f
abbrev mslotP (j : Fin 4) (f : Buf (Elt F) ((msl j).view.loc (c : Thread nD τ))) : sProp 𝕄 :=
  (msl j).view.loc (c : Thread nD τ) ↦[(msl j).view.set]{fullShare} f
/-- Slot `j`'s chunk of trip `t` at home, held at its array's contents. -/
abbrev fhomeP (j : Fin 4) (t : Fin 32) : sProp 𝕄 := (fch j t).view.loc (c : Thread nD τ) ↦[(fch j t).view.set]{fullShare} XF
abbrev mhomeP (j : Fin 4) (t : Fin 32) : sProp 𝕄 := (mch j t).view.loc (c : Thread nD τ) ↦[(mch j t).view.set]{fullShare} XM
/-- A chunk's words as a slot's payload. -/
abbrev fpay (j : Fin 4) (t : Fin 32) : S512x1024.Idx → Elt F .f32 := ReadAs.same.apply ((fch j t).view.read (Elt F) XF)
abbrev mpay (j : Fin 4) (t : Fin 32) : S512x128.Idx → Elt F .i8 := ReadAs.same.apply ((mch j t).view.read (Elt F) XM)
/-- Slot `j` in flight with its chunk of trip `t`, started over the contents `f`. -/
abbrev fflightP (j : Fin 4) (t : Fin 32) (f : Buf (Elt F) ((fsl j).view.loc (c : Thread nD τ))) : sProp 𝕄 :=
  Transfers.Flight countersEmb (c : Thread nD τ) (SemLoc.dma (fsm j).sem) () 65536
    iprop(fslotP c j ((fsl j).view.writes (Elt F) f [⟨Rect.whole S512x1024, fpay c XF j t⟩]) ∗ fhomeP c XF j t)
abbrev mflightP (j : Fin 4) (t : Fin 32) (f : Buf (Elt F) ((msl j).view.loc (c : Thread nD τ))) : sProp 𝕄 :=
  Transfers.Flight countersEmb (c : Thread nD τ) (SemLoc.dma (msm j).sem) () 2048
    iprop(mslotP c j ((msl j).view.writes (Elt F) f [⟨Rect.whole S512x128, mpay c XM j t⟩]) ∗ mhomeP c XM j t)

end Pieces

end Cert.KernelIdeal.Hand

end
-- ==== Proof.HandIdeal.Values.lean ====
/-
  What the body computes, written once for every slot, row group and lane tile.

  A slot holds a chunk of 512 rows of the features (512 × 1024) and the mask's words of those rows (512 × 128, the
  row's word on every lane). The body goes over the chunk in 8 groups of 64 rows and, within a group, in 8 tiles of
  128 lanes. Here are a tile's maximum and sum down its rows, a group's count, their folds over the groups, and a
  trip's effect on the running maximum, sum and count; then what these hold before each trip of the loop, and the row
  of the result that an odd trip writes.
-/
module

public import proofs.«01_k».proof.Proof.HandIdeal.Pieces
public import Idealize.ShloMosaic.Lib.VecWindow
public import Idealize.ShloMosaic.Lib.WritesUnit

@[expose] public section

set_option maxRecDepth 16384

noncomputable section

namespace Cert.KernelIdeal.Hand

open Cert.KernelIdeal Cert.KernelIdeal.Gen
open Idealize.ShloMosaic Idealize.ShloMosaic.TcCoe
open Idealize.SL.Sem

variable {F : FTy → Type} [FloatOps F] [Named F]

/-! ## Loads -/

theorem fld_inb (j : Fin 4) (r q : Nat) :
    ∀ a, (![j.val, 64 * (r % 8), 128 * (q % 8)] : Fin 3 → Nat) a + S1x64x128.size a ≤ S4x512x1024.size a := by
  have := j.isLt; intro a; fin_cases a
  · show j.val + 1 ≤ 4; omega
  · show 64 * (r % 8) + 64 ≤ 512; omega
  · show 128 * (q % 8) + 128 ≤ 1024; omega
theorem mld_inb (j : Fin 4) (r : Nat) :
    ∀ a, (![j.val, 64 * (r % 8), 0] : Fin 3 → Nat) a + S1x64x128.size a ≤ S4x512x128.size a := by
  have := j.isLt; intro a; fin_cases a
  · show j.val + 1 ≤ 4; omega
  · show 64 * (r % 8) + 64 ≤ 512; omega
  · show 0 + 128 ≤ 128; omega

/-- Tile `q` of row group `r` as loaded from slot `j` when the slot holds the chunk `x`. -/
def fld (j : Fin 4) (r q : Nat) (x : S512x1024.Idx → Elt F .f32) : Vec F S1x64x128 .f32 :=
  View.readAt (Elt F) fbM.view (Rect.unit (s := S4x512x1024) ![j.val, 64 * (r % 8), 128 * (q % 8)] S1x64x128.size (fld_inb j r q)).toLoadRect
    ((fsl j).view.writes (Elt F) (fsl j).view.junk [⟨Rect.whole S512x1024, x⟩])
/-- The mask's words of row group `r`, likewise. -/
def mld (j : Fin 4) (r : Nat) (w : S512x128.Idx → Elt F .i8) : Vec F S1x64x128 .i8 :=
  View.readAt (Elt F) mbM.view (Rect.unit (s := S4x512x128) ![j.val, 64 * (r % 8), 0] S1x64x128.size (mld_inb j r)).toLoadRect
    ((msl j).view.writes (Elt F) (msl j).view.junk [⟨Rect.whole S512x128, w⟩])

/-! ## One tile, one group -/

/-- The mask's words as numbers. -/
def wts (lm : Vec F S1x64x128 .i8) : FVec F S64x128 .f32 := sitofp .f32 (shapeCast S64x128 lm shapeCasts_S1x64x128_S64x128)
/-- What is added before the maximum: 0 where the mask keeps the row, −1e30 where it doesn't. -/
def pen (lm : Vec F S1x64x128 .i8) : FVec F S64x128 .f32 :=
  mulf (subf (wts lm) (broadcast S64x128 (Scalar.ofBits .f32 0x3F800000#32))) (broadcast S64x128 (Scalar.ofBits .f32 0x7149F2CA#32))
/-- A tile with the rows that the mask drops set to zero. -/
def kept (lm : Vec F S1x64x128 .i8) (lf : Vec F S1x64x128 .f32) : FVec F S64x128 .f32 :=
  mulf (shapeCast S64x128 lf shapeCasts_S1x64x128_S64x128) (wts lm)
/-- A tile's maximum down its rows, and its sum. -/
def tileMax (lm : Vec F S1x64x128 .i8) (lf : Vec F S1x64x128 .f32) : FVec F S128 .f32 :=
  multiReduction .maximumf [0] S128 (addf (kept lm lf) (pen lm)) 0xFF800000#32 reduces_S64x128_S128 (.inl rfl) rfl
def tileSum (lm : Vec F S1x64x128 .i8) (lf : Vec F S1x64x128 .f32) : FVec F S128 .f32 :=
  multiReduction .add [0] S128 (kept lm lf) 0x00000000#32 reduces_S64x128_S128 (.inl rfl) rfl
/-- How many of a group's rows the mask keeps: the sum of all its words over the 128 lanes. -/
def groupCnt (lm : Vec F S1x64x128 .i8) : F .f32 :=
  Scalar.mulf
    (extractAt ![0, 0, 0] (shapeCast S1x1x1 (multiReduction .add [1, 2] S1 (shapeCast S1x64x128 (wts lm) shapeCasts_S64x128_S1x64x128) 0x00000000#32
      reduces_S1x64x128_S1 (.inl rfl) rfl) shapeCasts_S1_S1x1x1) inpos_S1x1x1_p0_0_0)
    (Scalar.ofBits .f32 0x3C000000#32)

/-! ## One chunk -/

/-- The first `n + 1` of a family folded by the maximum, by the sum, and (scalars, from zero) by the sum. -/
def maxUp (b : Nat → FVec F S128 .f32) : Nat → FVec F S128 .f32
  | 0 => b 0
  | n + 1 => maximumf (maxUp b n) (b (n + 1))
def sumUp (b : Nat → FVec F S128 .f32) : Nat → FVec F S128 .f32
  | 0 => b 0
  | n + 1 => addf (sumUp b n) (b (n + 1))
def cntUp (b : Nat → F .f32) : Nat → F .f32
  | 0 => Scalar.addf (Scalar.ofBits .f32 0x00000000#32) (b 0)
  | n + 1 => Scalar.addf (cntUp b n) (b (n + 1))

/-- Eight tiles side by side as one row. -/
def row8 (t : Nat → FVec F S128 .f32) : FVec F S1x1024 .f32 :=
  shapeCast S1x1024 (concatenate S1024 0 [⟨S128, t 0⟩, ⟨S128, t 1⟩, ⟨S128, t 2⟩, ⟨S128, t 3⟩, ⟨S128, t 4⟩, ⟨S128, t 5⟩, ⟨S128, t 6⟩, ⟨S128, t 7⟩]
    concatenates_S128_S128_S128_S128_S128_S128_S128_S128_S1024_d0) shapeCasts_S1024_S1x1024

/-- The chunk's maximum and sum down its rows, and its count. -/
def chunkMax (j : Fin 4) (w : S512x128.Idx → Elt F .i8) (x : S512x1024.Idx → Elt F .f32) : FVec F S1x1024 .f32 :=
  row8 fun q => maxUp (fun r => tileMax (mld j r w) (fld j r q x)) 7
def chunkSum (j : Fin 4) (w : S512x128.Idx → Elt F .i8) (x : S512x1024.Idx → Elt F .f32) : FVec F S1x1024 .f32 :=
  row8 fun q => sumUp (fun r => tileSum (mld j r w) (fld j r q x)) 7
def chunkCnt (j : Fin 4) (w : S512x128.Idx → Elt F .i8) : F .f32 :=
  cntUp (fun r => groupCnt (mld j r w)) 7

/-- The running maximum, sum and count after a chunk. -/
def maxStep (j : Fin 4) (w : S512x128.Idx → Elt F .i8) (x : S512x1024.Idx → Elt F .f32) (a : FVec F S1x1024 .f32) : FVec F S1x1024 .f32 :=
  shapeCast S1x1024 (maximumf a (chunkMax j w x)) shapeCasts_S1x1024_S1x1024
def sumStep (j : Fin 4) (w : S512x128.Idx → Elt F .i8) (x : S512x1024.Idx → Elt F .f32) (s : FVec F S1x1024 .f32) : FVec F S1x1024 .f32 :=
  shapeCast S1x1024 (addf s (chunkSum j w x)) shapeCasts_S1x1024_S1x1024
def cntStep (j : Fin 4) (w : S512x128.Idx → Elt F .i8) (n : F .f32) : F .f32 := Scalar.addf n (chunkCnt j w)

/-! ## Trips -/

section Trips
variable (c : Dev nD) (XF : Buf (Elt F) (ftM.view.loc (c : Thread nD τ))) (XM : Buf (Elt F) (mskM.view.loc (c : Thread nD τ)))

/-- The running maximum, sum and count after trip `k`'s four chunks (before an odd trip clears them). -/
def tripMax (k : Nat) (a : FVec F S1x1024 .f32) : FVec F S1x1024 .f32 :=
  maxStep 3 (mpay c XM 3 (Ring.bk 32 k)) (fpay c XF 3 (Ring.bk 32 k)) (maxStep 2 (mpay c XM 2 (Ring.bk 32 k)) (fpay c XF 2 (Ring.bk 32 k))
    (maxStep 1 (mpay c XM 1 (Ring.bk 32 k)) (fpay c XF 1 (Ring.bk 32 k)) (maxStep 0 (mpay c XM 0 (Ring.bk 32 k)) (fpay c XF 0 (Ring.bk 32 k)) a)))
def tripSum (k : Nat) (s : FVec F S1x1024 .f32) : FVec F S1x1024 .f32 :=
  sumStep 3 (mpay c XM 3 (Ring.bk 32 k)) (fpay c XF 3 (Ring.bk 32 k)) (sumStep 2 (mpay c XM 2 (Ring.bk 32 k)) (fpay c XF 2 (Ring.bk 32 k))
    (sumStep 1 (mpay c XM 1 (Ring.bk 32 k)) (fpay c XF 1 (Ring.bk 32 k)) (sumStep 0 (mpay c XM 0 (Ring.bk 32 k)) (fpay c XF 0 (Ring.bk 32 k)) s)))
def tripCnt (k : Nat) (n : F .f32) : F .f32 :=
  cntStep 3 (mpay c XM 3 (Ring.bk 32 k)) (cntStep 2 (mpay c XM 2 (Ring.bk 32 k))
    (cntStep 1 (mpay c XM 1 (Ring.bk 32 k)) (cntStep 0 (mpay c XM 0 (Ring.bk 32 k)) n)))

/-- What the running maximum, sum and count start from, at the loop's entry and after an odd trip. -/
def max0 : FVec F S1x1024 .f32 := k0_pay12
def sum0 : FVec F S1x1024 .f32 := k0_pay13
def cnt0 : F .f32 := Scalar.ofBits .f32 0x00000000#32

/-- What they hold before trip `k`. -/
def accMax : Nat → FVec F S1x1024 .f32
  | 0 => max0
  | k + 1 => if k % 2 = 1 then max0 else tripMax c XF XM k (accMax k)
def accSum : Nat → FVec F S1x1024 .f32
  | 0 => sum0
  | k + 1 => if k % 2 = 1 then sum0 else tripSum c XF XM k (accSum k)
def accCnt : Nat → F .f32
  | 0 => cnt0
  | k + 1 => if k % 2 = 1 then cnt0 else tripCnt c XM k (accCnt k)

/-- The row an odd trip writes from the final maximum, sum and count: the maximum, then the mean. -/
def outRow (a s : FVec F S1x1024 .f32) (n : F .f32) (q : Fin 2048) : F .f32 :=
  if h : q.val < 1024 then a (fun d => ⟨![0, q.val] d, by revert d; refine Fin.forall_fin_two.2 ⟨?_, ?_⟩; exacts [Nat.zero_lt_one, h]⟩)
  else k0_pay11 n s (fun d => ⟨![0, q.val - 1024] d, by have := q.isLt; revert d; refine Fin.forall_fin_two.2 ⟨?_, ?_⟩; exacts [Nat.zero_lt_one, (by show q.val - 1024 < 1024; omega)]⟩)

/-- Row `b` of the result. -/
def batchRow (b : Nat) (q : Fin 2048) : F .f32 :=
  outRow (tripMax c XF XM (2 * b + 1) (accMax c XF XM (2 * b + 1))) (tripSum c XF XM (2 * b + 1) (accSum c XF XM (2 * b + 1)))
    (tripCnt c XM (2 * b + 1) (accCnt c XM (2 * b + 1))) q

/-- An array of 16 rows with row `b` replaced. -/
def putRow (b : Nat) (w : Fin 2048 → F .f32) (X : S16x2048.Idx → F .f32) : S16x2048.Idx → F .f32 :=
  fun y => if (y 0).val = b then w (y 1) else X y

end Trips

end Cert.KernelIdeal.Hand

end
-- ==== Proof.HandIdeal.Trip.lean ====
/-
  One trip of the loop. A trip takes the four chunks its slots were started with, adds each to the running maximum,
  sum and count, and starts the next trip's chunk into the slot just read. An odd trip ends a batch: it writes the
  batch's row of the result and clears the running values. The last trip starts nothing.
-/
module

public import proofs.«01_k».proof.Proof.HandIdeal.Values

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

/-! ## Reading back what a trip stores -/

section ReadBack
variable (c : Dev nD)

abbrev RR : Rect S1x1024 := Rect.unit (s := S1x1024) ![0, 0] S1x1024.size inb_S1x1024_S1x1024_0_0

/-- A chunk's step from a value just stored: the whole-row load reads it back. -/
theorem maxStep_of (j : Fin 4) (w : S512x128.Idx → Elt F .i8) (x : S512x1024.Idx → Elt F .f32) (v a : FVec F S1x1024 .f32) (L : List (View.Piece (Elt F) S1x1024 .f32)) (e : v = a) :
    shapeCast S1x1024 (maximumf (F := F) (φ := .f32) (s := S1x1024) (mxM.view.readCov (⟨RR, v⟩ :: L) RR.toLoadRect) (chunkMax j w x)) shapeCasts_S1x1024_S1x1024 = maxStep j w x a := by
  subst e; exact congrArg (fun u => shapeCast S1x1024 (maximumf u (chunkMax j w x)) shapeCasts_S1x1024_S1x1024) (View.readCov_full _ _ _ _ _)
theorem sumStep_of (j : Fin 4) (w : S512x128.Idx → Elt F .i8) (x : S512x1024.Idx → Elt F .f32) (v s : FVec F S1x1024 .f32) (L : List (View.Piece (Elt F) S1x1024 .f32)) (e : v = s) :
    shapeCast S1x1024 (addf (F := F) (φ := .f32) (s := S1x1024) (smM.view.readCov (⟨RR, v⟩ :: L) RR.toLoadRect) (chunkSum j w x)) shapeCasts_S1x1024_S1x1024 = sumStep j w x s := by
  subst e; exact congrArg (fun u => shapeCast S1x1024 (addf u (chunkSum j w x)) shapeCasts_S1x1024_S1x1024) (View.readCov_full _ _ _ _ _)
/-- The first chunk's step, from the value the buffer holds before the trip. -/
theorem maxStep_first (j : Fin 4) (w : S512x128.Idx → Elt F .i8) (x : S512x1024.Idx → Elt F .f32) (A : Buf (Elt F) (mxM.view.loc (c : Thread nD τ))) :
    shapeCast S1x1024 (maximumf (View.readAt (Elt F) mxM.view RR.toLoadRect A) (chunkMax j w x)) shapeCasts_S1x1024_S1x1024 = maxStep j w x (mxM.view.read (Elt F) A) :=
  congrArg (fun u => shapeCast S1x1024 (maximumf u (chunkMax j w x)) shapeCasts_S1x1024_S1x1024) (View.readAt_full _ _ _)
theorem sumStep_first (j : Fin 4) (w : S512x128.Idx → Elt F .i8) (x : S512x1024.Idx → Elt F .f32) (A : Buf (Elt F) (smM.view.loc (c : Thread nD τ))) :
    shapeCast S1x1024 (addf (View.readAt (Elt F) smM.view RR.toLoadRect A) (chunkSum j w x)) shapeCasts_S1x1024_S1x1024 = sumStep j w x (smM.view.read (Elt F) A) :=
  congrArg (fun u => shapeCast S1x1024 (addf u (chunkSum j w x)) shapeCasts_S1x1024_S1x1024) (View.readAt_full _ _ _)

/-- The count a trip starts from, as it loads it. -/
theorem cnt_first (C : Buf (Elt F) (ctM.view.loc (c : Thread nD τ))) (n : F .f32) (e : ctM.view.read (Elt F) C = fun _ => n) (h) :
    View.readAt (Elt F) ctM.view (Rect.unit (s := S1) ![0] S1.size inb_S1_S1_0).toLoadRect C (Shape.Idx.first h) = n :=
  (congrFun (View.readAt_full _ _ _) _).trans (congrFun e _)

/-- An odd trip's two stores put the batch's row into the result. -/
theorem row_written (arg2 : Memref sig .tc .vmem S16x2048 .f32) (O : Buf (Elt F) (arg2.view.loc (c : Thread nD τ))) (k : Fin k0_t1_loop.trips)
    (hodd : k.val % 2 = 1) (h15 h16) (a a' s s' : FVec F S1x1024 .f32) (n n' : F .f32) (X) (ea : a = a') (es : s = s') (en : n = n')
    (eO : arg2.view.read (Elt F) O = X) :
    arg2.view.read (Elt F) (arg2.view.writes (Elt F) O
        [⟨Rect.unit (s := S16x2048) (k0_off16 k) S1x1024.size h16, k0_pay11 n s⟩, ⟨Rect.unit (s := S16x2048) (k0_off15 k) S1x1024.size h15, a⟩])
      = putRow (k.val / 2) (outRow a' s' n') X := by
  subst ea es en eO
  funext y
  obtain ⟨e15, e16⟩ := off_out k hodd
  have h0 := (y 0).isLt; have h1 := (y 1).isLt
  by_cases hr : (y 0).val = k.val / 2
  · by_cases hq : (y 1).val < 1024
    · rw [View.read_writes_cons_unit_of_not_mem _ _ _ _ _ _ e16 1 (.inl (show (y 1).val < 1024 from hq)),
        View.read_writes_cons_unit_of_mem _ _ _ _ _ _ (fun d => ⟨![0, (y 1).val] d, by revert d; refine Fin.forall_fin_two.2 ⟨?_, ?_⟩; exacts [Nat.zero_lt_one, hq]⟩) e15
          (Fin.forall_fin_two.2 ⟨hr, (Nat.zero_add _).symm⟩)]
      simp only [putRow, outRow, if_pos hr, dif_pos hq]
    · rw [View.read_writes_cons_unit_of_mem _ _ _ _ _ _ (fun d => ⟨![0, (y 1).val - 1024] d, by
            revert d; refine Fin.forall_fin_two.2 ⟨?_, ?_⟩; exacts [Nat.zero_lt_one, (show (y 1).val - 1024 < 1024 by have : (y 1).val < 2048 := h1; omega)]⟩) e16
          (Fin.forall_fin_two.2 ⟨hr, (show (y 1).val = 1024 + ((y 1).val - 1024) by omega)⟩)]
      simp only [putRow, outRow, if_pos hr, dif_neg hq]
  · have hne : (y 0).val < k.val / 2 ∨ k.val / 2 + 1 ≤ (y 0).val := by omega
    rw [View.read_writes_cons_unit_of_not_mem _ _ _ _ _ _ e16 0 hne, View.read_writes_cons_unit_of_not_mem _ _ _ _ _ _ e15 0 hne]
    simp only [putRow, if_neg hr]; rfl

end ReadBack

/-! ## What a trip holds -/

section Res
variable (c : Dev nD) (XF : Buf (Elt F) (ftM.view.loc (c : Thread nD τ))) (XM : Buf (Elt F) (mskM.view.loc (c : Thread nD τ)))
  (arg2 : Memref sig .tc .vmem S16x2048 .f32) (harg2 : arg2.IsWhole)

/-- A buffer held whole. -/
abbrev wholeP {sp : Space} {s : Shape} {e : EltTy} (M : Memref sig .tc sp s e) (f : Buf (Elt F) (M.view.loc (c : Thread nD τ))) : sProp 𝕄 :=
  M.view.loc (c : Thread nD τ) ↦[M.view.set]{fullShare} f
/-- The result's staging buffer and the running maximum, sum and count, at the given values. -/
def heldP (X : S16x2048.Idx → F .f32) (a s : FVec F S1x1024 .f32) (n : F .f32) : sProp 𝕄 :=
  iprop(∃ (O : Buf (Elt F) (arg2.view.loc (c : Thread nD τ))) (A : Buf (Elt F) (mxM.view.loc (c : Thread nD τ)))
      (S : Buf (Elt F) (smM.view.loc (c : Thread nD τ))) (C : Buf (Elt F) (ctM.view.loc (c : Thread nD τ))),
    wholeP c arg2 O ∗ wholeP c mxM A
    ∗ wholeP c smM S ∗ wholeP c ctM C
    ∗ ⌜arg2.view.read (Elt F) O = X⌝ ∗ ⌜mxM.view.read (Elt F) A = a⌝ ∗ ⌜smM.view.read (Elt F) S = s⌝
    ∗ ⌜ctM.view.read (Elt F) C = fun _ => n⌝)
/-- The four slots of each buffer in flight with trip `t`'s chunks. -/
def flightsP (t : Fin 32) : sProp 𝕄 :=
  iprop((∃ f, fflightP c XF 0 t f) ∗ (∃ f, mflightP c XM 0 t f) ∗ (∃ f, fflightP c XF 1 t f) ∗ (∃ f, mflightP c XM 1 t f)
    ∗ (∃ f, fflightP c XF 2 t f) ∗ (∃ f, mflightP c XM 2 t f) ∗ (∃ f, fflightP c XF 3 t f) ∗ (∃ f, mflightP c XM 3 t f))
/-- Trip `t`'s chunks at home. -/
def homesP (t : Fin 32) : sProp 𝕄 :=
  iprop(fhomeP c XF 0 t ∗ mhomeP c XM 0 t ∗ fhomeP c XF 1 t ∗ mhomeP c XM 1 t ∗ fhomeP c XF 2 t ∗ mhomeP c XM 2 t ∗ fhomeP c XF 3 t ∗ mhomeP c XM 3 t)
/-- The slots held and their cells at zero. -/
def idleP : sProp 𝕄 :=
  iprop((∃ f, fslotP c 0 f) ∗ (∃ f, mslotP c 0 f) ∗ (∃ f, fslotP c 1 f) ∗ (∃ f, mslotP c 1 f)
    ∗ (∃ f, fslotP c 2 f) ∗ (∃ f, mslotP c 2 f) ∗ (∃ f, fslotP c 3 f) ∗ (∃ f, mslotP c 3 f)
    ∗ (fcellP c 0 ∗ fcellP c 1 ∗ fcellP c 2 ∗ fcellP c 3) ∗ (mcellP c 0 ∗ mcellP c 1 ∗ mcellP c 2 ∗ mcellP c 3))

/-- A flight started over what the slot's previous flight delivered, as one over some contents. -/
theorem fflightP_after (j : Fin 4) (t t' : Fin 32) :
    fflightP c XF j t' ((fsl j).view.writes (Elt F) (fsl j).view.junk [⟨Rect.whole S512x1024, fpay c XF j t⟩])
      = Transfers.Flight countersEmb (c : Thread nD τ) (SemLoc.dma (fsm j).sem) () 65536
          iprop(((fsl j).view.loc (c : Thread nD τ) ↦[(fsl j).view.set]{fullShare}
                  (fsl j).view.writes (Elt F) (fsl j).view.junk [⟨Rect.whole S512x1024, fpay c XF j t'⟩, ⟨Rect.whole S512x1024, fpay c XF j t⟩])
                ∗ fhomeP c XF j t') := by
  simp only [fflightP, fslotP, View.writes]
theorem mflightP_after (j : Fin 4) (t t' : Fin 32) :
    mflightP c XM j t' ((msl j).view.writes (Elt F) (msl j).view.junk [⟨Rect.whole S512x128, mpay c XM j t⟩])
      = Transfers.Flight countersEmb (c : Thread nD τ) (SemLoc.dma (msm j).sem) () 2048
          iprop(((msl j).view.loc (c : Thread nD τ) ↦[(msl j).view.set]{fullShare}
                  (msl j).view.writes (Elt F) (msl j).view.junk [⟨Rect.whole S512x128, mpay c XM j t'⟩, ⟨Rect.whole S512x128, mpay c XM j t⟩])
                ∗ mhomeP c XM j t') := by
  simp only [mflightP, mslotP, View.writes]

abbrev tripG (k : Fin k0_t1_loop.trips) : Prog (TpuEff nD τ sig (Elt F) Λ₀ .tc) Unit :=
  k0_t1_body (F := F) mskM (Memref.isWhole_whole _) ftM (Memref.isWhole_whole _) arg2 harg2 fbM (Memref.isWhole_whole _) mbM (Memref.isWhole_whole _)
    mxM (Memref.isWhole_whole _) smM (Memref.isWhole_whole _) ctM (Memref.isWhole_whole _) cc0_scratch5 cc0_scratch6 k ()

/-- The contents before an executed store list, read whole. -/
abbrev fdone (j : Fin 4) (k : Nat) : Buf (Elt F) ((fsl j).view.loc (c : Thread nD τ)) :=
  (fsl j).view.writes (Elt F) (fsl j).view.junk [⟨Rect.whole S512x1024, fpay c XF j (Ring.bk 32 k)⟩]
abbrev mdone (j : Fin 4) (k : Nat) : Buf (Elt F) ((msl j).view.loc (c : Thread nD τ)) :=
  (msl j).view.writes (Elt F) (msl j).view.junk [⟨Rect.whole S512x128, mpay c XM j (Ring.bk 32 k)⟩]

set_option backward.proofsInPublic true in
/-- An even trip: no row is written, the running values go on. -/
theorem tripEven (k : Fin k0_t1_loop.trips) (hk : k.val < 31) (heven : ¬ k.val % 2 = 1) (X a s n) :
    iprop(heldP c arg2 X a s n ∗ (∃ W, owes (c : Thread nD τ) 0 W) ∗ flightsP c XF XM (Ring.bk 32 k.val) ∗ homesP c XF XM (Ring.bk 32 (k.val + 1)))
      ⊢ wp frame (wpE (defs₀ (F := F)) 𝒱₀ (c : Thread nD τ) none) Set.univ (tripG arg2 harg2 k)
        (fun _ => iprop(heldP c arg2 X (tripMax c XF XM k.val a) (tripSum c XF XM k.val s) (tripCnt c XM k.val n)
          ∗ (∃ W, owes (c : Thread nD τ) 0 W) ∗ flightsP c XF XM (Ring.bk 32 (k.val + 1)) ∗ homesP c XF XM (Ring.bk 32 k.val))) := by
  obtain ⟨h1, h3, h5, h7⟩ := cond_next k hk
  obtain ⟨h2, h4, h6⟩ := cond_mid k
  have h8 := cond_even k heven
  unfold heldP flightsP homesP
  iintro ⟨⟨%O, %A, %S, %C, HO, HA, HS, HC, EO, EA, ES, EC⟩, ⟨%W, HW⟩, ⟨⟨%f0, Hf0⟩, ⟨%m0, Hm0⟩, ⟨%f1, Hf1⟩, ⟨%m1, Hm1⟩, ⟨%f2, Hf2⟩, ⟨%m2, Hm2⟩, ⟨%f3, Hf3⟩, ⟨%m3, Hm3⟩⟩,
    Gf0, Gm0, Gf1, Gm1, Gf2, Gm2, Gf3, Gm3⟩
  dsimp only [tripG]
  sl_unfold [k0_t1_body]
  sl_exec
  sl_step
  icases EO with %eO
  icases EA with %eA
  icases ES with %eS
  icases EC with %eC
  isplitl [HO HA HS HC]
  · iexists O, _, _, _
    isplitl [HO]; · iexact HO
    isplitl [HA]; · iexact HA
    isplitl [HS]; · iexact HS
    isplitl [HC]; · iexact HC
    isplitl; · ipureintro; exact eO
    isplitl
    · ipureintro
      subst eA
      exact (View.read_writes_full ..).trans (maxStep_of 3 (mpay c XM 3 (Ring.bk 32 k.val)) (fpay c XF 3 (Ring.bk 32 k.val)) _ _ _
        (maxStep_of 2 (mpay c XM 2 (Ring.bk 32 k.val)) (fpay c XF 2 (Ring.bk 32 k.val)) _ _ _
        (maxStep_of 1 (mpay c XM 1 (Ring.bk 32 k.val)) (fpay c XF 1 (Ring.bk 32 k.val)) _ _ _
        (maxStep_first c 0 (mpay c XM 0 (Ring.bk 32 k.val)) (fpay c XF 0 (Ring.bk 32 k.val)) A))))
    isplitl
    · ipureintro
      subst eS
      exact (View.read_writes_full ..).trans (sumStep_of 3 (mpay c XM 3 (Ring.bk 32 k.val)) (fpay c XF 3 (Ring.bk 32 k.val)) _ _ _
        (sumStep_of 2 (mpay c XM 2 (Ring.bk 32 k.val)) (fpay c XF 2 (Ring.bk 32 k.val)) _ _ _
        (sumStep_of 1 (mpay c XM 1 (Ring.bk 32 k.val)) (fpay c XF 1 (Ring.bk 32 k.val)) _ _ _
        (sumStep_first c 0 (mpay c XM 0 (Ring.bk 32 k.val)) (fpay c XF 0 (Ring.bk 32 k.val)) S))))
    ipureintro
    refine (View.read_writes_full ..).trans (funext fun _ => ?_)
    show tripCnt c XM k.val (View.readAt (Elt F) ctM.view (Rect.unit (s := S1) ![0] S1.size inb_S1_S1_0).toLoadRect C (Shape.Idx.first (by decide))) = _
    rw [cnt_first c C n eC]
  isplitl [HW]; · iexists _; iexact HW
  isplitl [Hf0 Hm0 Hf1 Hm1 Hf2 Hm2 Hf3 Hm3]
  · isplitl [Hf0]; · iexists (fdone c XF 0 k.val); irw [fflightP_after]; iexact Hf0
    isplitl [Hm0]; · iexists (mdone c XM 0 k.val); irw [mflightP_after]; iexact Hm0
    isplitl [Hf1]; · iexists (fdone c XF 1 k.val); irw [fflightP_after]; iexact Hf1
    isplitl [Hm1]; · iexists (mdone c XM 1 k.val); irw [mflightP_after]; iexact Hm1
    isplitl [Hf2]; · iexists (fdone c XF 2 k.val); irw [fflightP_after]; iexact Hf2
    isplitl [Hm2]; · iexists (mdone c XM 2 k.val); irw [mflightP_after]; iexact Hm2
    isplitl [Hf3]; · iexists (fdone c XF 3 k.val); irw [fflightP_after]; iexact Hf3
    iexists (mdone c XM 3 k.val); irw [mflightP_after]; iexact Hm3
  isplitl [Hf0_src]; · iexact Hf0_src
  isplitl [Hm0_src]; · iexact Hm0_src
  isplitl [Hf1_src]; · iexact Hf1_src
  isplitl [Hm1_src]; · iexact Hm1_src
  isplitl [Hf2_src]; · iexact Hf2_src
  isplitl [Hm2_src]; · iexact Hm2_src
  isplitl [Hf3_src]; · iexact Hf3_src
  iexact Hm3_src

end Res

end Cert.KernelIdeal.Hand

end
-- ==== Proof.HandIdeal.TripOdd.lean ====
/-
  An odd trip before the last: it ends a batch, so it writes the batch's row and clears the running values.
-/
module

public import proofs.«01_k».proof.Proof.HandIdeal.Trip

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

variable (c : Dev nD) (XF : Buf (Elt F) (ftM.view.loc (c : Thread nD τ))) (XM : Buf (Elt F) (mskM.view.loc (c : Thread nD τ)))
  (arg2 : Memref sig .tc .vmem S16x2048 .f32) (harg2 : arg2.IsWhole)

set_option backward.proofsInPublic true in
set_option maxHeartbeats 2000000 in
/-- An odd trip but the last: the batch's row is written, the running values start afresh. -/
theorem tripOdd (k : Fin k0_t1_loop.trips) (hk : k.val < 31) (hodd : k.val % 2 = 1) (X a s n) :
    iprop(heldP c arg2 X a s n ∗ (∃ W, owes (c : Thread nD τ) 0 W) ∗ flightsP c XF XM (Ring.bk 32 k.val) ∗ homesP c XF XM (Ring.bk 32 (k.val + 1)))
      ⊢ wp frame (wpE (defs₀ (F := F)) 𝒱₀ (c : Thread nD τ) none) Set.univ (tripG arg2 harg2 k)
        (fun _ => iprop(heldP c arg2 (putRow (k.val / 2) (outRow (tripMax c XF XM k.val a) (tripSum c XF XM k.val s) (tripCnt c XM k.val n)) X) max0 sum0 cnt0
          ∗ (∃ W, owes (c : Thread nD τ) 0 W) ∗ flightsP c XF XM (Ring.bk 32 (k.val + 1)) ∗ homesP c XF XM (Ring.bk 32 k.val))) := by
  obtain ⟨h1, h3, h5, h7⟩ := cond_next k hk
  obtain ⟨h2, h4, h6⟩ := cond_mid k
  have h8 := cond_odd k hodd
  unfold heldP flightsP homesP
  iintro ⟨⟨%O, %A, %S, %C, HO, HA, HS, HC, EO, EA, ES, EC⟩, ⟨%W, HW⟩, ⟨⟨%f0, Hf0⟩, ⟨%m0, Hm0⟩, ⟨%f1, Hf1⟩, ⟨%m1, Hm1⟩, ⟨%f2, Hf2⟩, ⟨%m2, Hm2⟩, ⟨%f3, Hf3⟩, ⟨%m3, Hm3⟩⟩,
    Gf0, Gm0, Gf1, Gm1, Gf2, Gm2, Gf3, Gm3⟩
  dsimp only [tripG]
  sl_unfold [k0_t1_body]
  sl_exec
  sl_step
  icases EO with %eO
  icases EA with %eA
  icases ES with %eS
  icases EC with %eC
  isplitl [HO HA HS HC]
  · iexists _, _, _, _
    isplitl [HO]; · iexact HO
    isplitl [HA]; · iexact HA
    isplitl [HS]; · iexact HS
    isplitl [HC]; · iexact HC
    isplitl
    · ipureintro
      subst eA eS
      refine row_written c arg2 O k hodd _ _ _ _ _ _ _ _ X ?_ ?_ ?_ eO
      · refine (View.readCov_full ..).trans (maxStep_of 3 (mpay c XM 3 (Ring.bk 32 k.val)) (fpay c XF 3 (Ring.bk 32 k.val)) _ _ _
          (maxStep_of 2 (mpay c XM 2 (Ring.bk 32 k.val)) (fpay c XF 2 (Ring.bk 32 k.val)) _ _ _
          (maxStep_of 1 (mpay c XM 1 (Ring.bk 32 k.val)) (fpay c XF 1 (Ring.bk 32 k.val)) _ _ _
          (maxStep_first c 0 (mpay c XM 0 (Ring.bk 32 k.val)) (fpay c XF 0 (Ring.bk 32 k.val)) A))))
      · refine (View.readCov_full ..).trans (sumStep_of 3 (mpay c XM 3 (Ring.bk 32 k.val)) (fpay c XF 3 (Ring.bk 32 k.val)) _ _ _
          (sumStep_of 2 (mpay c XM 2 (Ring.bk 32 k.val)) (fpay c XF 2 (Ring.bk 32 k.val)) _ _ _
          (sumStep_of 1 (mpay c XM 1 (Ring.bk 32 k.val)) (fpay c XF 1 (Ring.bk 32 k.val)) _ _ _
          (sumStep_first c 0 (mpay c XM 0 (Ring.bk 32 k.val)) (fpay c XF 0 (Ring.bk 32 k.val)) S))))
      · show tripCnt c XM k.val (View.readAt (Elt F) ctM.view (Rect.unit (s := S1) ![0] S1.size inb_S1_S1_0).toLoadRect C (Shape.Idx.first (by decide))) = _
        rw [cnt_first c C n eC]
    isplitl; · ipureintro; exact View.read_writes_full ..
    isplitl; · ipureintro; exact View.read_writes_full ..
    ipureintro; exact View.read_writes_full ..
  isplitl [HW]; · iexists _; iexact HW
  isplitl [Hf0 Hm0 Hf1 Hm1 Hf2 Hm2 Hf3 Hm3]
  · isplitl [Hf0]; · iexists (fdone c XF 0 k.val); irw [fflightP_after]; iexact Hf0
    isplitl [Hm0]; · iexists (mdone c XM 0 k.val); irw [mflightP_after]; iexact Hm0
    isplitl [Hf1]; · iexists (fdone c XF 1 k.val); irw [fflightP_after]; iexact Hf1
    isplitl [Hm1]; · iexists (mdone c XM 1 k.val); irw [mflightP_after]; iexact Hm1
    isplitl [Hf2]; · iexists (fdone c XF 2 k.val); irw [fflightP_after]; iexact Hf2
    isplitl [Hm2]; · iexists (mdone c XM 2 k.val); irw [mflightP_after]; iexact Hm2
    isplitl [Hf3]; · iexists (fdone c XF 3 k.val); irw [fflightP_after]; iexact Hf3
    iexists (mdone c XM 3 k.val); irw [mflightP_after]; iexact Hm3
  isplitl [Hf0_src]; · iexact Hf0_src
  isplitl [Hm0_src]; · iexact Hm0_src
  isplitl [Hf1_src]; · iexact Hf1_src
  isplitl [Hm1_src]; · iexact Hm1_src
  isplitl [Hf2_src]; · iexact Hf2_src
  isplitl [Hm2_src]; · iexact Hm2_src
  isplitl [Hf3_src]; · iexact Hf3_src
  iexact Hm3_src

end Cert.KernelIdeal.Hand

end
-- ==== Proof.HandIdeal.TripLast.lean ====
/-
  The last trip: it ends the last batch and starts no chunk.
-/
module

public import proofs.«01_k».proof.Proof.HandIdeal.Trip

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

variable (c : Dev nD) (XF : Buf (Elt F) (ftM.view.loc (c : Thread nD τ))) (XM : Buf (Elt F) (mskM.view.loc (c : Thread nD τ)))
  (arg2 : Memref sig .tc .vmem S16x2048 .f32) (harg2 : arg2.IsWhole)

set_option backward.proofsInPublic true in
set_option maxHeartbeats 2000000 in
/-- The last trip: the last batch's row is written and no chunk is started; the slots are left held and their cells at zero. -/
theorem tripLast (k : Fin k0_t1_loop.trips) (hk : ¬ k.val < 31) (hodd : k.val % 2 = 1) (X a s n) :
    iprop(heldP c arg2 X a s n ∗ (∃ W, owes (c : Thread nD τ) 0 W) ∗ flightsP c XF XM (Ring.bk 32 k.val))
      ⊢ wp frame (wpE (defs₀ (F := F)) 𝒱₀ (c : Thread nD τ) none) Set.univ (tripG arg2 harg2 k)
        (fun _ => iprop(heldP c arg2 (putRow (k.val / 2) (outRow (tripMax c XF XM k.val a) (tripSum c XF XM k.val s) (tripCnt c XM k.val n)) X) max0 sum0 cnt0
          ∗ (∃ W, owes (c : Thread nD τ) 0 W) ∗ idleP c ∗ homesP c XF XM (Ring.bk 32 k.val))) := by
  obtain ⟨h1, h3, h5, h7⟩ := cond_last k hk
  obtain ⟨h2, h4, h6⟩ := cond_mid k
  have h8 := cond_odd k hodd
  unfold heldP flightsP homesP idleP
  iintro ⟨⟨%O, %A, %S, %C, HO, HA, HS, HC, EO, EA, ES, EC⟩, ⟨%W, HW⟩, ⟨⟨%f0, Hf0⟩, ⟨%m0, Hm0⟩, ⟨%f1, Hf1⟩, ⟨%m1, Hm1⟩, ⟨%f2, Hf2⟩, ⟨%m2, Hm2⟩, ⟨%f3, Hf3⟩, ⟨%m3, Hm3⟩⟩⟩
  dsimp only [tripG]
  sl_unfold [k0_t1_body]
  sl_exec
  sl_step
  icases EO with %eO
  icases EA with %eA
  icases ES with %eS
  icases EC with %eC
  isplitl [HO HA HS HC]
  · iexists _, _, _, _
    isplitl [HO]; · iexact HO
    isplitl [HA]; · iexact HA
    isplitl [HS]; · iexact HS
    isplitl [HC]; · iexact HC
    isplitl
    · ipureintro
      subst eA eS
      refine row_written c arg2 O k hodd _ _ _ _ _ _ _ _ X ?_ ?_ ?_ eO
      · refine (View.readCov_full ..).trans (maxStep_of 3 (mpay c XM 3 (Ring.bk 32 k.val)) (fpay c XF 3 (Ring.bk 32 k.val)) _ _ _
          (maxStep_of 2 (mpay c XM 2 (Ring.bk 32 k.val)) (fpay c XF 2 (Ring.bk 32 k.val)) _ _ _
          (maxStep_of 1 (mpay c XM 1 (Ring.bk 32 k.val)) (fpay c XF 1 (Ring.bk 32 k.val)) _ _ _
          (maxStep_first c 0 (mpay c XM 0 (Ring.bk 32 k.val)) (fpay c XF 0 (Ring.bk 32 k.val)) A))))
      · refine (View.readCov_full ..).trans (sumStep_of 3 (mpay c XM 3 (Ring.bk 32 k.val)) (fpay c XF 3 (Ring.bk 32 k.val)) _ _ _
          (sumStep_of 2 (mpay c XM 2 (Ring.bk 32 k.val)) (fpay c XF 2 (Ring.bk 32 k.val)) _ _ _
          (sumStep_of 1 (mpay c XM 1 (Ring.bk 32 k.val)) (fpay c XF 1 (Ring.bk 32 k.val)) _ _ _
          (sumStep_first c 0 (mpay c XM 0 (Ring.bk 32 k.val)) (fpay c XF 0 (Ring.bk 32 k.val)) S))))
      · show tripCnt c XM k.val (View.readAt (Elt F) ctM.view (Rect.unit (s := S1) ![0] S1.size inb_S1_S1_0).toLoadRect C (Shape.Idx.first (by decide))) = _
        rw [cnt_first c C n eC]
    isplitl; · ipureintro; exact View.read_writes_full ..
    isplitl; · ipureintro; exact View.read_writes_full ..
    ipureintro; exact View.read_writes_full ..
  isplitl [HW]; · iexists _; iexact HW
  isplitl [Hf0 Hm0 Hf1 Hm1 Hf2 Hm2 Hf3 Hm3 Hf0_dst Hm0_dst Hf1_dst Hm1_dst Hf2_dst Hm2_dst Hf3_dst Hm3_dst]
  · isplitl [Hf0_dst]; · iexists _; iexact Hf0_dst
    isplitl [Hm0_dst]; · iexists _; iexact Hm0_dst
    isplitl [Hf1_dst]; · iexists _; iexact Hf1_dst
    isplitl [Hm1_dst]; · iexists _; iexact Hm1_dst
    isplitl [Hf2_dst]; · iexists _; iexact Hf2_dst
    isplitl [Hm2_dst]; · iexists _; iexact Hm2_dst
    isplitl [Hf3_dst]; · iexists _; iexact Hf3_dst
    isplitl [Hm3_dst]; · iexists _; iexact Hm3_dst
    isplitl [Hf0 Hf1 Hf2 Hf3]
    · isplitl [Hf0]; · iexact Hf0
      isplitl [Hf1]; · iexact Hf1
      isplitl [Hf2]; · iexact Hf2
      iexact Hf3
    isplitl [Hm0]; · iexact Hm0
    isplitl [Hm1]; · iexact Hm1
    isplitl [Hm2]; · iexact Hm2
    iexact Hm3
  isplitl [Hf0_src]; · iexact Hf0_src
  isplitl [Hm0_src]; · iexact Hm0_src
  isplitl [Hf1_src]; · iexact Hf1_src
  isplitl [Hm1_src]; · iexact Hm1_src
  isplitl [Hf2_src]; · iexact Hf2_src
  isplitl [Hm2_src]; · iexact Hm2_src
  isplitl [Hf3_src]; · iexact Hf3_src
  iexact Hm3_src

end Cert.KernelIdeal.Hand

end
-- ==== Proof.HandIdeal.Loop.lean ====
/-
  The loop's invariant, kept by every trip, and the body run by it: the first four chunks started, 32 trips, every
  chunk home again, and the result's buffer holding the 16 batches' rows.
-/
module

public import proofs.«01_k».proof.Proof.HandIdeal.TripOdd
public import proofs.«01_k».proof.Proof.HandIdeal.TripLast

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

variable (c : Dev nD) (XF : Buf (Elt F) (ftM.view.loc (c : Thread nD τ))) (XM : Buf (Elt F) (mskM.view.loc (c : Thread nD τ)))
  (arg2 : Memref sig .tc .vmem S16x2048 .f32) (harg2 : arg2.IsWhole)

/-! ## The chunks at home -/

/-- Trip `k`'s homes: the next trip's chunks (about to go out) beside the rest; -/
theorem homes_here (k : ℕ) (hk : k + 1 < 32) :
    bigSep (Ring.homeSet 1 k) (homesP c XF XM) = iprop(homesP c XF XM (Ring.bk 32 (k + 1)) ∗ bigSep ((Ring.homeSet 1 k).erase (Ring.bk 32 (k + 1))) (homesP c XF XM)) := by
  conv_lhs => rw [Ring.homeSet_out 1 k hk, bigSep_insert (Ring.bkL_not_mem_erase 1 k)]
  rfl
/-- trip `k + 1`'s: trip `k`'s chunks (just back) beside that rest. -/
theorem homes_next (k : ℕ) (hk : k + 1 < 32) :
    bigSep (Ring.homeSet 1 (k + 1)) (homesP c XF XM) = iprop(homesP c XF XM (Ring.bk 32 k) ∗ bigSep ((Ring.homeSet 1 k).erase (Ring.bk 32 (k + 1))) (homesP c XF XM)) := by
  conv_lhs => rw [Ring.homeSet_succ 1 k hk, bigSep_insert (Ring.bk_not_mem_erase 1 k (by omega) (by decide))]
  rfl
/-- After the last trip every chunk is home, -/
theorem homes_last : bigSep (Ring.homeSet 1 32) (homesP c XF XM) = iprop(homesP c XF XM (Ring.bk 32 31) ∗ bigSep (Ring.homeSet 1 31) (homesP c XF XM)) := by
  have e : Ring.homeSet (NB := 32) 1 32 = insert (Ring.bk 32 31) (Ring.homeSet 1 31) := by
    ext b
    have := b.isLt
    simp only [Finset.mem_insert, Ring.mem_homeSet, Fin.ext_iff, Ring.bk_val (show 31 < 32 by decide)]
    omega
  have h : Ring.bk 32 31 ∉ Ring.homeSet (NB := 32) 1 31 := by rw [Ring.mem_homeSet, Ring.bk_val (by decide)]; omega
  rw [e, bigSep_insert h]; rfl
theorem homes_all : bigSep (Ring.homeSet 1 32) (homesP c XF XM) = bigSep Finset.univ (homesP c XF XM) := by
  have e : Ring.homeSet (NB := 32) 1 32 = Finset.univ := by
    ext b
    have := b.isLt
    simp only [Ring.mem_homeSet, Finset.mem_univ, iff_true]; omega
  rw [e]
/-- and before the first the first trip's chunks are apart from the rest. -/
theorem homes_first : bigSep Finset.univ (homesP c XF XM) = iprop(homesP c XF XM 0 ∗ bigSep (Ring.homeSet 1 0) (homesP c XF XM)) := by
  have e : (Finset.univ : Finset (Fin 32)) = insert 0 (Ring.homeSet (NB := 32) 1 0) := by
    ext b
    simp only [Finset.mem_univ, Finset.mem_insert, Ring.mem_homeSet, true_iff, Fin.ext_iff]; have := b.isLt; simp only [Fin.val_zero]; omega
  rw [e, bigSep_insert (by simp [Ring.mem_homeSet])]; rfl

/-! ## The invariant -/

/-- The rows of the result written before trip `k` hold their batches' values. -/
def RowsDone (k : ℕ) (X : S16x2048.Idx → F .f32) : Prop := ∀ y : S16x2048.Idx, (y 0).val < k / 2 → X y = batchRow c XF XM (y 0).val (y 1)

theorem RowsDone.even {k : ℕ} {X} (h : RowsDone c XF XM k X) (hk : ¬ k % 2 = 1) : RowsDone c XF XM (k + 1) X :=
  fun y hy => h y (by omega)
theorem RowsDone.odd {k : ℕ} {X} (h : RowsDone c XF XM k X) (hk : k % 2 = 1) :
    RowsDone c XF XM (k + 1) (putRow (k / 2) (outRow (tripMax c XF XM k (accMax c XF XM k)) (tripSum c XF XM k (accSum c XF XM k)) (tripCnt c XM k (accCnt c XM k))) X) := by
  intro y hy
  unfold putRow
  by_cases e : (y 0).val = k / 2
  · rw [if_pos e, e]; unfold batchRow; rw [show 2 * (k / 2) + 1 = k by omega]
  · rw [if_neg e]; exact h y (by omega)

/-- The slots before trip `k`: in flight with its chunks, or, past the last trip, held. -/
def slotsP (k : ℕ) : sProp 𝕄 := if k < 32 then flightsP c XF XM (Ring.bk 32 k) else idleP c
/-- What the loop holds before trip `k`. -/
def invP (k : ℕ) : sProp 𝕄 :=
  iprop((∃ X, heldP c arg2 X (accMax c XF XM k) (accSum c XF XM k) (accCnt c XM k) ∗ ⌜RowsDone c XF XM k X⌝)
    ∗ (∃ W, owes (c : Thread nD τ) 0 W) ∗ bigSep (Ring.homeSet 1 k) (homesP c XF XM) ∗ slotsP c XF XM k)

/-- Every trip keeps it. -/
theorem tripStep (k : Fin k0_t1_loop.trips) :
    invP c XF XM arg2 k.val ⊢ wp frame (wpE (defs₀ (F := F)) 𝒱₀ (c : Thread nD τ) none) Set.univ (tripG arg2 harg2 k) (fun _ => invP c XF XM arg2 (k.val + 1)) := by
  have hlt : k.val < 32 := Nat.lt_of_lt_of_eq k.isLt trips_eq
  unfold invP slotsP
  rw [if_pos hlt]
  by_cases hodd : k.val % 2 = 1
  · have eM : accMax c XF XM (k.val + 1) = max0 := if_pos hodd
    have eS : accSum c XF XM (k.val + 1) = sum0 := if_pos hodd
    have eC : accCnt c XM (k.val + 1) = cnt0 := if_pos hodd
    rw [eM, eS, eC]
    by_cases hk : k.val < 31
    · rw [if_pos (by omega : k.val + 1 < 32), homes_here c XF XM k.val (by omega), homes_next c XF XM k.val (by omega)]
      iintro ⟨⟨%X, HX, %hX⟩, HW, ⟨Hn, Hr⟩, Hfl⟩
      iapply (wp_wand_r Idealize.ShloMosaic.frame (wpE (defs₀ (F := F)) 𝒱₀ (c : Thread nD τ) none) Set.univ)
      isplitl [HX HW Hn Hfl]
      · iapply (tripOdd c XF XM arg2 harg2 k hk hodd X)
        isplitl [HX]; · iexact HX
        isplitl [HW]; · iexact HW
        isplitl [Hfl]; · iexact Hfl
        iexact Hn
      · iintro %_ ⟨HX, HW, Hfl, Hh⟩
        isplitl [HX]
        · iexists _
          isplitl [HX]; · iexact HX
          ipureintro; exact hX.odd c XF XM hodd
        isplitl [HW]; · iexact HW
        isplitl [Hh Hr]
        · isplitl [Hh]; · iexact Hh
          iexact Hr
        iexact Hfl
    · have e31 : k.val = 31 := by omega
      rw [if_neg (by omega : ¬ k.val + 1 < 32), show Ring.homeSet (NB := 32) 1 (k.val + 1) = Ring.homeSet 1 32 by rw [e31], homes_last,
        show Ring.homeSet (NB := 32) 1 31 = Ring.homeSet 1 k.val by rw [e31], show Ring.bk 32 31 = Ring.bk 32 k.val by rw [e31]]
      iintro ⟨⟨%X, HX, %hX⟩, HW, Hr, Hfl⟩
      iapply (wp_wand_r Idealize.ShloMosaic.frame (wpE (defs₀ (F := F)) 𝒱₀ (c : Thread nD τ) none) Set.univ)
      isplitl [HX HW Hfl]
      · iapply (tripLast c XF XM arg2 harg2 k hk hodd X)
        isplitl [HX]; · iexact HX
        isplitl [HW]; · iexact HW
        iexact Hfl
      · iintro %_ ⟨HX, HW, Hfl, Hh⟩
        isplitl [HX]
        · iexists _
          isplitl [HX]; · iexact HX
          ipureintro; exact hX.odd c XF XM hodd
        isplitl [HW]; · iexact HW
        isplitl [Hh Hr]
        · isplitl [Hh]; · iexact Hh
          iexact Hr
        iexact Hfl
  · have hk : k.val < 31 := by omega
    have eM : accMax c XF XM (k.val + 1) = tripMax c XF XM k.val (accMax c XF XM k.val) := if_neg hodd
    have eS : accSum c XF XM (k.val + 1) = tripSum c XF XM k.val (accSum c XF XM k.val) := if_neg hodd
    have eC : accCnt c XM (k.val + 1) = tripCnt c XM k.val (accCnt c XM k.val) := if_neg hodd
    rw [eM, eS, eC, if_pos (by omega : k.val + 1 < 32), homes_here c XF XM k.val (by omega), homes_next c XF XM k.val (by omega)]
    iintro ⟨⟨%X, HX, %hX⟩, HW, ⟨Hn, Hr⟩, Hfl⟩
    iapply (wp_wand_r Idealize.ShloMosaic.frame (wpE (defs₀ (F := F)) 𝒱₀ (c : Thread nD τ) none) Set.univ)
    isplitl [HX HW Hn Hfl]
    · iapply (tripEven c XF XM arg2 harg2 k hk hodd X)
      isplitl [HX]; · iexact HX
      isplitl [HW]; · iexact HW
      isplitl [Hfl]; · iexact Hfl
      iexact Hn
    · iintro %_ ⟨HX, HW, Hfl, Hh⟩
      isplitl [HX]
      · iexists X
        isplitl [HX]; · iexact HX
        ipureintro; exact hX.even c XF XM hodd
      isplitl [HW]; · iexact HW
      isplitl [Hh Hr]
      · isplitl [Hh]; · iexact Hh
        iexact Hr
      iexact Hfl

/-! ## The body -/

/-- The body on the given staging buffer for the result, the other operands its own. -/
abbrev bodyG : Prog (TpuEff nD τ sig (Elt F) Λ₀ .tc) PUnit :=
  cc0__body mskM (Memref.isWhole_whole _) ftM (Memref.isWhole_whole _) arg2 harg2 fbM (Memref.isWhole_whole _) mbM (Memref.isWhole_whole _)
    mxM (Memref.isWhole_whole _) smM (Memref.isWhole_whole _) ctM (Memref.isWhole_whole _) cc0_scratch5 cc0_scratch6

/-- The result: row `b` of it batch `b`'s. -/
def outVal : S16x2048.Idx → F .f32 := fun y => batchRow c XF XM (y 0).val (y 1)

/-- What the body leaves, read off the invariant past the last trip. -/
theorem inv_end :
    invP c XF XM arg2 32 ⊢ iprop((∃ O, wholeP c arg2 O ∗ ⌜arg2.view.read (Elt F) O = outVal c XF XM⌝) ∗ (∃ A, wholeP c mxM A) ∗ (∃ S, wholeP c smM S) ∗ (∃ C, wholeP c ctM C)
        ∗ bigSep Finset.univ (homesP c XF XM) ∗ idleP c ∗ ∃ W, owes (c : Thread nD τ) 0 W) := by
  unfold invP slotsP heldP
  rw [if_neg (by decide : ¬ (32 : ℕ) < 32), homes_all]
  iintro ⟨⟨%X, ⟨%O, %A, %S, %C, HO, HA, HS, HC, %eO, -, -, -⟩, %hX⟩, HW, Hh, Hi⟩
  isplitl [HO]
  · iexists O
    isplitl [HO]; · iexact HO
    ipureintro; exact eO.trans (funext fun y => hX y (y 0).isLt)
  isplitl [HA]; · iexists A; iexact HA
  isplitl [HS]; · iexists S; iexact HS
  isplitl [HC]; · iexists C; iexact HC
  isplitl [Hh]; · iexact Hh
  isplitl [Hi]; · iexact Hi
  iexact HW

set_option maxHeartbeats 1000000 in
/-- Run from everything at home and the buffers at anything, the body ends with the result's buffer holding the
    batches' rows and everything back. -/
theorem bodyRun (Q : PUnit → sProp 𝕄) :
    iprop(((∃ O, wholeP c arg2 O) ∗ (∃ A, wholeP c mxM A) ∗ (∃ S, wholeP c smM S) ∗ (∃ C, wholeP c ctM C) ∗ bigSep Finset.univ (homesP c XF XM) ∗ idleP c
        ∗ ∃ W, owes (c : Thread nD τ) 0 W)
      ∗ (((∃ O, wholeP c arg2 O ∗ ⌜arg2.view.read (Elt F) O = outVal c XF XM⌝) ∗ (∃ A, wholeP c mxM A) ∗ (∃ S, wholeP c smM S) ∗ (∃ C, wholeP c ctM C)
        ∗ bigSep Finset.univ (homesP c XF XM) ∗ idleP c ∗ ∃ W, owes (c : Thread nD τ) 0 W) -∗ Q ⟨⟩))
      ⊢ wp frame (wpE (defs₀ (F := F)) 𝒱₀ (c : Thread nD τ) none) Set.univ (bodyG arg2 harg2) Q := by
  iintro ⟨⟨⟨%O, HO⟩, ⟨%A, HA⟩, ⟨%S, HS⟩, ⟨%C, HC⟩, Hh, Hi, ⟨%W, HW⟩⟩, Hk⟩
  ihave Hh := (Entails.of_eq (homes_first c XF XM)) $$ Hh
  icases Hh with ⟨H0, Hh⟩
  ihave H0 := (Entails.of_eq (homesP.eq_def c XF XM 0)) $$ H0
  icases H0 with ⟨Gf0, Gm0, Gf1, Gm1, Gf2, Gm2, Gf3, Gm3⟩
  ihave Hi := (Entails.of_eq (idleP.eq_def c)) $$ Hi
  icases Hi with ⟨⟨%f0, Sf0⟩, ⟨%m0, Sm0⟩, ⟨%f1, Sf1⟩, ⟨%m1, Sm1⟩, ⟨%f2, Sf2⟩, ⟨%m2, Sm2⟩, ⟨%f3, Sf3⟩, ⟨%m3, Sm3⟩, ⟨Cf0, Cf1, Cf2, Cf3⟩, ⟨Cm0, Cm1, Cm2, Cm3⟩⟩
  dsimp only [bodyG]
  sl_unfold [cc0__body]
  sl_exec
  sl_for (fun k (_ : Unit) => invP c XF XM arg2 k) $$ [HO HA HS HC Hh HW Cf0 Cm0 Cf1 Cm1 Cf2 Cm2 Cf3 Cm3]
  case region =>
    intro k _
    iintro HI
    iapply (tripStep c XF XM arg2 harg2 k)
    iexact HI
  · unfold invP slotsP heldP
    rw [if_pos (by decide : (0 : ℕ) < 32), show Ring.bk 32 0 = 0 from rfl]
    unfold flightsP
    isplitl [HO HA HS HC]
    · iexists (arg2.view.read (Elt F) O)
      isplitl
      · iexists O, _, _, _
        isplitl [HO]; · iexact HO
        isplitl [HA]; · iexact HA
        isplitl [HS]; · iexact HS
        isplitl [HC]; · iexact HC
        isplitl; · ipureintro; rfl
        isplitl; · ipureintro; exact View.read_writes_full ..
        isplitl; · ipureintro; exact View.read_writes_full ..
        ipureintro; exact View.read_writes_full ..
      ipureintro; exact fun y hy => absurd hy (Nat.not_lt_zero _)
    isplitl [HW]; · iexists W; iexact HW
    isplitl [Hh]; · iexact Hh
    isplitl [Cf0]; · iexists f0; iexact Cf0
    isplitl [Cm0]; · iexists m0; iexact Cm0
    isplitl [Cf1]; · iexists f1; iexact Cf1
    isplitl [Cm1]; · iexists m1; iexact Cm1
    isplitl [Cf2]; · iexists f2; iexact Cf2
    isplitl [Cm2]; · iexists m2; iexact Cm2
    isplitl [Cf3]; · iexists f3; iexact Cf3
    iexists m3; iexact Cm3
  iintro %_ HI
  rw [show Scf.trips k0_t1_loop.lb k0_t1_loop.ub k0_t1_loop.st = 32 from trips_eq]
  sl_step
  iapply Hk
  iapply (inv_end c XF XM arg2)
  iexact HI

end Cert.KernelIdeal.Hand

end
-- ==== Proof.HandIdeal.Launch.lean ====
/-
  The launch: @main's host operations, then the kernel at its one grid point. The two arrays the kernel streams are
  held chunk by chunk and the two buffers slot by slot; at the end everything is whole again, every counter is at zero,
  and the result array holds the value the body computed.
-/
module

public import proofs.«01_k».proof.Proof.HandIdeal.Loop
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UU nD τ) ℕ

/-- The pipeline library's part of the proof's algebra. -/
abbrev EP : Emb (UR sig nD τ) (MT nD τ sig Unit (Elt F) ℕ (UU nD τ) ℕ) := embL

/-! ## The kernel's own semaphores: the cells of the four slots of each buffer -/

abbrev osem : Fin 8 → SemLoc sig :=
  ![.dma (fsm 0).sem, .dma (fsm 1).sem, .dma (fsm 2).sem, .dma (fsm 3).sem,
    .dma (msm 0).sem, .dma (msm 1).sem, .dma (msm 2).sem, .dma (msm 3).sem]
theorem ownSemFacts : Pipeline.OwnSemFacts spec0 osem := by decide

/-! ## Element sets: the chunks of the two arrays, the slots of the two buffers -/

/-- The elements of chunk `(t, j)` of the features, and of the mask words. -/
abbrev CF (b : Fin 32 × Fin 4) : Finset S16x4096x1024.Idx := (Rect.unit (s := S16x4096x1024) (chOff b.2 b.1) S1x512x1024.size (chOff_inb_f b.2 b.1)).set
abbrev CM (b : Fin 32 × Fin 4) : Finset S16x4096x128.Idx := (Rect.unit (s := S16x4096x128) (chOff b.2 b.1) S1x512x128.size (chOff_inb_m b.2 b.1)).set
/-- The elements of slot `j` of the feature buffer, and of the mask buffer. -/
abbrev SF (j : Fin 4) : Finset S4x512x1024.Idx := (Rect.unit (s := S4x512x1024) (slOff j) S1x512x1024.size (slOff_inb_f j)).set
abbrev SM (j : Fin 4) : Finset S4x512x128.Idx := (Rect.unit (s := S4x512x128) (slOff j) S1x512x128.size (slOff_inb_m j)).set

theorem fch_set (j : Fin 4) (t : Fin 32) : (fch j t).view.set = CF (t, j) := (View.set_reshape _ _).trans (View.set_slice_whole _ _)
theorem mch_set (j : Fin 4) (t : Fin 32) : (mch j t).view.set = CM (t, j) := (View.set_reshape _ _).trans (View.set_slice_whole _ _)
theorem fsl_set (j : Fin 4) : (fsl j).view.set = SF j := (View.set_reshape _ _).trans (View.set_slice_whole _ _)
theorem msl_set (j : Fin 4) : (msl j).view.set = SM j := (View.set_reshape _ _).trans (View.set_slice_whole _ _)

/-- An element is in the chunk numbered by its batch and its row's block of 512. -/
theorem mem_CF (b : Fin 32 × Fin 4) (y : S16x4096x1024.Idx) : y ∈ CF b ↔ 8 * (y 0).val + (y 1).val / 512 = 4 * b.1.val + b.2.val := by
  rw [Rect.mem_set_unit]
  have h1 : (y 1).val < 4096 := (y 1).isLt
  have h2 : (y 2).val < 1024 := (y 2).isLt
  constructor
  · intro H
    have a0 : (4 * b.1.val + b.2.val) / 8 ≤ (y 0).val ∧ (y 0).val < (4 * b.1.val + b.2.val) / 8 + 1 := H 0
    have a1 : 512 * ((4 * b.1.val + b.2.val) % 8) ≤ (y 1).val ∧ (y 1).val < 512 * ((4 * b.1.val + b.2.val) % 8) + 512 := H 1
    omega
  · intro H i; fin_cases i
    · show (4 * b.1.val + b.2.val) / 8 ≤ (y 0).val ∧ (y 0).val < (4 * b.1.val + b.2.val) / 8 + 1; omega
    · show 512 * ((4 * b.1.val + b.2.val) % 8) ≤ (y 1).val ∧ (y 1).val < 512 * ((4 * b.1.val + b.2.val) % 8) + 512; omega
    · show 0 ≤ (y 2).val ∧ (y 2).val < 0 + 1024; omega
theorem mem_CM (b : Fin 32 × Fin 4) (y : S16x4096x128.Idx) : y ∈ CM b ↔ 8 * (y 0).val + (y 1).val / 512 = 4 * b.1.val + b.2.val := by
  rw [Rect.mem_set_unit]
  have h1 : (y 1).val < 4096 := (y 1).isLt
  have h2 : (y 2).val < 128 := (y 2).isLt
  constructor
  · intro H
    have a0 : (4 * b.1.val + b.2.val) / 8 ≤ (y 0).val ∧ (y 0).val < (4 * b.1.val + b.2.val) / 8 + 1 := H 0
    have a1 : 512 * ((4 * b.1.val + b.2.val) % 8) ≤ (y 1).val ∧ (y 1).val < 512 * ((4 * b.1.val + b.2.val) % 8) + 512 := H 1
    omega
  · intro H i; fin_cases i
    · show (4 * b.1.val + b.2.val) / 8 ≤ (y 0).val ∧ (y 0).val < (4 * b.1.val + b.2.val) / 8 + 1; omega
    · show 512 * ((4 * b.1.val + b.2.val) % 8) ≤ (y 1).val ∧ (y 1).val < 512 * ((4 * b.1.val + b.2.val) % 8) + 512; omega
    · show 0 ≤ (y 2).val ∧ (y 2).val < 0 + 128; omega
/-- An element is in the slot its first coordinate names. -/
theorem mem_SF (j : Fin 4) (y : S4x512x1024.Idx) : y ∈ SF j ↔ (y 0).val = j.val := by
  rw [Rect.mem_set_unit]
  have h1 : (y 1).val < 512 := (y 1).isLt
  have h2 : (y 2).val < 1024 := (y 2).isLt
  constructor
  · intro H; have a0 : j.val ≤ (y 0).val ∧ (y 0).val < j.val + 1 := H 0; omega
  · intro H i; fin_cases i
    · show j.val ≤ (y 0).val ∧ (y 0).val < j.val + 1; omega
    · show 0 ≤ (y 1).val ∧ (y 1).val < 0 + 512; omega
    · show 0 ≤ (y 2).val ∧ (y 2).val < 0 + 1024; omega
theorem mem_SM (j : Fin 4) (y : S4x512x128.Idx) : y ∈ SM j ↔ (y 0).val = j.val := by
  rw [Rect.mem_set_unit]
  have h1 : (y 1).val < 512 := (y 1).isLt
  have h2 : (y 2).val < 128 := (y 2).isLt
  constructor
  · intro H; have a0 : j.val ≤ (y 0).val ∧ (y 0).val < j.val + 1 := H 0; omega
  · intro H i; fin_cases i
    · show j.val ≤ (y 0).val ∧ (y 0).val < j.val + 1; omega
    · show 0 ≤ (y 1).val ∧ (y 1).val < 0 + 512; omega
    · show 0 ≤ (y 2).val ∧ (y 2).val < 0 + 128; omega

/-- Two chunks with one number are one chunk. -/
theorem chunk_inj {b b' : Fin 32 × Fin 4} (h : 4 * b.1.val + b.2.val = 4 * b'.1.val + b'.2.val) : b = b' := by
  have h2 := b.2.isLt; have h2' := b'.2.isLt
  exact Prod.ext (Fin.ext (by omega)) (Fin.ext (by omega))
/-- The chunk with number `n`. -/
def chunkOf (n : ℕ) (h : n < 128) : Fin 32 × Fin 4 := (⟨n / 4, by omega⟩, ⟨n % 4, by omega⟩)
theorem chunkOf_num (n : ℕ) (h : n < 128) : n = 4 * (chunkOf n h).1.val + (chunkOf n h).2.val := by
  show n = 4 * (n / 4) + n % 4; omega

theorem CF_disjoint : ∀ b b' : Fin 32 × Fin 4, b ≠ b' → Disjoint (CF b) (CF b') := by
  intro b b' hne; rw [Finset.disjoint_left]; intro y hy hy'; rw [mem_CF] at hy hy'; exact hne (chunk_inj (hy.symm.trans hy'))
theorem CM_disjoint : ∀ b b' : Fin 32 × Fin 4, b ≠ b' → Disjoint (CM b) (CM b') := by
  intro b b' hne; rw [Finset.disjoint_left]; intro y hy hy'; rw [mem_CM] at hy hy'; exact hne (chunk_inj (hy.symm.trans hy'))
theorem CF_cover : (Finset.univ : Finset (Fin 32 × Fin 4)).biUnion CF = Finset.univ := by
  ext y
  have h0 : (y 0).val < 16 := (y 0).isLt
  have h1 : (y 1).val < 4096 := (y 1).isLt
  simp only [Finset.mem_biUnion, Finset.mem_univ, true_and, iff_true]
  exact ⟨chunkOf (8 * (y 0).val + (y 1).val / 512) (by omega), (mem_CF _ y).mpr (chunkOf_num _ _)⟩
theorem CM_cover : (Finset.univ : Finset (Fin 32 × Fin 4)).biUnion CM = Finset.univ := by
  ext y
  have h0 : (y 0).val < 16 := (y 0).isLt
  have h1 : (y 1).val < 4096 := (y 1).isLt
  simp only [Finset.mem_biUnion, Finset.mem_univ, true_and, iff_true]
  exact ⟨chunkOf (8 * (y 0).val + (y 1).val / 512) (by omega), (mem_CM _ y).mpr (chunkOf_num _ _)⟩
theorem SF_disjoint : ∀ j j' : Fin 4, j ≠ j' → Disjoint (SF j) (SF j') := by
  intro j j' hne; rw [Finset.disjoint_left]; intro y hy hy'; rw [mem_SF] at hy hy'; exact hne (Fin.ext (hy.symm.trans hy'))
theorem SM_disjoint : ∀ j j' : Fin 4, j ≠ j' → Disjoint (SM j) (SM j') := by
  intro j j' hne; rw [Finset.disjoint_left]; intro y hy hy'; rw [mem_SM] at hy hy'; exact hne (Fin.ext (hy.symm.trans hy'))
theorem SF_cover : (Finset.univ : Finset (Fin 4)).biUnion SF = Finset.univ := by
  ext y; simp only [Finset.mem_biUnion, Finset.mem_univ, true_and, iff_true]; exact ⟨(y 0).cast (by decide), (mem_SF _ y).mpr rfl⟩
theorem SM_cover : (Finset.univ : Finset (Fin 4)).biUnion SM = Finset.univ := by
  ext y; simp only [Finset.mem_biUnion, Finset.mem_univ, true_and, iff_true]; exact ⟨(y 0).cast (by decide), (mem_SM _ y).mpr rfl⟩

/-! ## Arrays as chunks, buffers as slots -/

theorem bigSep_fin4 (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ

variable (c : Dev nD) (XF : Buf (Elt F) (ftM.view.loc (c : Thread nD τ))) (XM : Buf (Elt F) (mskM.view.loc (c : Thread nD τ)))

/-- One trip's chunks at home, feature chunks first. -/
theorem homesP_eq (t : Fin 32) :
    homesP c XF XM t = (iprop(bigSep Finset.univ (fun j => fhomeP c XF j t) ∗ bigSep Finset.univ (fun j => mhomeP c XM j t)) : sProp 𝕄) := by
  rw [bigSep_fin4, bigSep_fin4]
  refine BI.Entails.antisymm ?_ ?_
  · show homesP c XF XM t ⊢ _
    unfold homesP
    iintro ⟨A0, B0, A1, B1, A2, B2, A3, B3⟩
    isplitl [A0 A1 A2 A3]
    · isplitl [A0]; · iexact A0
      isplitl [A1]; · iexact A1
      isplitl [A2]; · iexact A2
      iexact A3
    isplitl [B0]; · iexact B0
    isplitl [B1]; · iexact B1
    isplitl [B2]; · iexact B2
    iexact B3
  · show _ ⊢ homesP c XF XM t
    unfold homesP
    iintro ⟨⟨A0, A1, A2, A3⟩, B0, B1, B2, B3⟩
    isplitl [A0]; · iexact A0
    isplitl [B0]; · iexact B0
    isplitl [A1]; · iexact A1
    isplitl [B1]; · iexact B1
    isplitl [A2]; · iexact A2
    isplitl [B2]; · iexact B2
    isplitl [A3]; · iexact A3
    iexact B3

/-- The two arrays whole are the 32 trips' chunks at home. -/
theorem arrays_eq :
    (iprop((((c : Thread nD τ).loc main_arg0) ↦{fullShare} XF) ∗ (((c : Thread nD τ).loc main_v2) ↦{fullShare} XM)) : sProp 𝕄)
      = bigSep Finset.univ (homesP c XF XM) := by
  rw [Ring.pointsTo_blocks (ℓ := (c : Thread nD τ).loc main_arg0) CF CF_disjoint CF_cover,
    Ring.pointsTo_blocks (ℓ := (c : Thread nD τ).loc main_v2) CM CM_disjoint CM_cover, bigSep_univ_prod, bigSep_univ_prod,
    ← bigSep_sep']
  refine bigSep_congr fun t _ => ?_
  rw [homesP_eq]
  refine congrArg₂ _ (bigSep_congr fun j _ => ?_) (bigSep_congr fun j _ => ?_)
  · rw [← fch_set]; rfl
  · rw [← mch_set]; rfl

theorem fslotP_eq (j : Fin 4) (f) : fslotP c j f = (((c : Thread nD τ).loc cc0_scratch0) ↦[SF j]{fullShare} f : sProp 𝕄) :=
  congrArg (fun S => (_ ↦[S]{fullShare} f : sProp 𝕄)) (fsl_set j)
theorem mslotP_eq (j : Fin 4) (f) : mslotP c j f = (((c : Thread nD τ).loc cc0_scratch1) ↦[SM j]{fullShare} f : sProp 𝕄) :=
  congrArg (fun S => (_ ↦[S]{fullShare} f : sProp 𝕄)) (msl_set j)

/-- The feature buffer whole is its four slots, -/
theorem fbuf_split :
    iprop(∃ f : Buf (Elt F) ((c : Thread nD τ).loc cc0_scratch0), ((c : Thread nD τ).loc cc0_scratch0) ↦{fullShare} f)
      ⊢ (iprop((∃ f, fslotP c 0 f) ∗ (∃ f, fslotP c 1 f) ∗ (∃ f, fslotP c 2 f) ∗ ∃ f, fslotP c 3 f) : sProp 𝕄) := by
  simp only [fslotP_eq]
  iintro ⟨%f, H⟩
  ihave H := (Entails.of_eq ((Ring.pointsTo_blocks (Ix := Unit) (Name := ℕ) (U := UU nD τ) (Lvl := ℕ) (q := fullShare) (ℓ := (c : Thread nD τ).loc cc0_scratch0) SF SF_disjoint SF_cover f).trans (bigSep_fin4 _))) $$ H
  icases H with ⟨H0, H1, H2, H3⟩
  isplitl [H0]; · iexists f; iexact H0
  isplitl [H1]; · iexists f; iexact H1
  isplitl [H2]; · iexists f; iexact H2
  iexists f; iexact H3
/-- and back; -/
theorem fbuf_join :
    iprop((∃ f, fslotP c 0 f) ∗ (∃ f, fslotP c 1 f) ∗ (∃ f, fslotP c 2 f) ∗ ∃ f, fslotP c 3 f)
      ⊢ (iprop(∃ f : Buf (Elt F) ((c : Thread nD τ).loc cc0_scratch0), ((c : Thread nD τ).loc cc0_scratch0) ↦{fullShare} f) : sProp 𝕄) := by
  simp only [fslotP_eq]
  iintro ⟨⟨%f0, H0⟩, ⟨%f1, H1⟩, ⟨%f2, H2⟩, ⟨%f3, H3⟩⟩
  iapply (Ring.pointsTo_blocks_join_exists (ℓ := (c : Thread nD τ).loc cc0_scratch0) SF SF_disjoint SF_cover f0)
  irw [bigSep_fin4]
  isplitl [H0]; · iexists f0; iexact H0
  isplitl [H1]; · iexists f1; iexact H1
  isplitl [H2]; · iexists f2; iexact H2
  iexists f3; iexact H3
/-- the mask buffer likewise. -/
theorem mbuf_split :
    iprop(∃ f : Buf (Elt F) ((c : Thread nD τ).loc cc0_scratch1), ((c : Thread nD τ).loc cc0_scratch1) ↦{fullShare} f)
      ⊢ (iprop((∃ f, mslotP c 0 f) ∗ (∃ f, mslotP c 1 f) ∗ (∃ f, mslotP c 2 f) ∗ ∃ f, mslotP c 3 f) : sProp 𝕄) := by
  simp only [mslotP_eq]
  iintro ⟨%f, H⟩
  ihave H := (Entails.of_eq ((Ring.pointsTo_blocks (Ix := Unit) (Name := ℕ) (U := UU nD τ) (Lvl := ℕ) (q := fullShare) (ℓ := (c : Thread nD τ).loc cc0_scratch1) SM SM_disjoint SM_cover f).trans (bigSep_fin4 _))) $$ H
  icases H with ⟨H0, H1, H2, H3⟩
  isplitl [H0]; · iexists f; iexact H0
  isplitl [H1]; · iexists f; iexact H1
  isplitl [H2]; · iexists f; iexact H2
  iexists f; iexact H3
theorem mbuf_join :
    iprop((∃ f, mslotP c 0 f) ∗ (∃ f, mslotP c 1 f) ∗ (∃ f, mslotP c 2 f) ∗ ∃ f, mslotP c 3 f)
      ⊢ (iprop(∃ f : Buf (Elt F) ((c : Thread nD τ).loc cc0_scratch1), ((c : Thread nD τ).loc cc0_scratch1) ↦{fullShare} f) : sProp 𝕄) := by
  simp only [mslotP_eq]
  iintro ⟨⟨%f0, H0⟩, ⟨%f1, H1⟩, ⟨%f2, H2⟩, ⟨%f3, H3⟩⟩
  iapply (Ring.pointsTo_blocks_join_exists (ℓ := (c : Thread nD τ).loc cc0_scratch1) SM SM_disjoint SM_cover f0)
  irw [bigSep_fin4]
  isplitl [H0]; · iexists f0; iexact H0
  isplitl [H1]; · iexists f1; iexact H1
  isplitl [H2]; · iexists f2; iexact H2
  iexists f3; iexact H3

/-- A buffer held whole, as the points-to of all its elements. -/
theorem whole_eq (r : Ref sig .tc) (f : Buf (Elt F) ((c : Thread nD τ).loc r)) :
    (((c : Thread nD τ).loc r) ↦{fullShare} f : sProp 𝕄) = (((c : Thread nD τ).loc r) ↦[(View.whole (sig := sig) r).set]{fullShare} f) := by
  rw [View.set_whole]

/-- The kernel's own cells at zero are the eight slots' cells. -/
theorem ownSems0_eq : (Pipeline.ownSems0 (Ix := Unit) (Name := ℕ) (U := UU nD τ) (Lvl := ℕ) (Val := Elt F) (τ := τ) osem c : sProp 𝕄)
    = iprop(fcellP c 0 ∗ fcellP c 1 ∗ fcellP c 2 ∗ fcellP c 3 ∗ mcellP c 0 ∗ mcellP c 1 ∗ mcellP c 2 ∗ mcellP c 3) := by
  unfold Pipeline.ownSems0; rw [bigSep_fin8]; rfl

/-! ## The pipeline's proof data -/

section Launch

variable (m : (ℓ : Loc nD τ sig) → Buf (Elt F) ℓ) (ρ : Dev nD → PrngReg)

/-- The features and the mask words as the kernel finds them. -/
abbrev XFm (c : Dev nD) : Buf (Elt F) (ftM.view.loc (c : Thread nD τ)) := V m c main_arg0
abbrev XMm (c : Dev nD) : Buf (Elt F) (mskM.view.loc (c : Thread nD τ)) := V m c main_v2

/-- The region's invariant, the same before and after the one point: every chunk home, every slot at anything, every
    cell at zero, and the running maximum, sum and count at anything. -/
def Φ (c : Dev nD) : sProp 𝕄 :=
  iprop(bigSep Finset.univ (homesP c (XFm m c) (XMm m c)) ∗ idleP c ∗ (∃ A, wholeP c mxM A) ∗ (∃ S, wholeP c smM S) ∗ (∃ C, wholeP c ctM C))

/-- What the body leaves in the result's staging buffer. -/
def outAt (c : Dev nD) (t : Fin cfg0.N) : (cfg0.win 0).block.Idx → Elt F (cfg0.win 0).elt := outVal c (XFm m c) (XMm m c)

def dats (_ : Fin 1) (c : Dev nD) : Dat τ (Elt F) Unit ℕ (UU nD τ) ℕ cfg0 c where
  A w := V m c (Pipeline.arrRef spec0 w)
  after w t := match w with
    | ⟨0, _⟩ => outAt m c t
  Φ _ := Φ m c
  q _ := fullShare
  owed _ := 0

theorem after_w0 (c : Dev nD) (t : Fin cfg0.N) : (dats m 0 c).after 0 t = outAt m c t := by dsimp only [dats]

/-! ## The body obligation -/

theorem defs_tc : (defs₀ (F := F)) .tc cfg0.body = fun a => bodyG (win0_0.stage (a.2 0)) (hstage0_0 0) := rfl
theorem prog_eq (t : Fin cfg0.N) : (defs₀ (F := F)) .tc cfg0.body (cfg0.bodyArgs t (cfg0.slots t)) = bodyG (win0_0.stage (cfg0.slots t 0)) (hstage0_0 0) :=
  (congrFun defs_tc _).trans rfl

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [after_w0]
  rw [show (dats m 0 c).Φ t.castSucc = Φ m c from rfl, show (dats m 0 c).Φ t.succ = Φ m c from rfl]
  unfold Dat.owesAt Pipeline.owesWithin
  rw [show (dats m 0 c).owed t.castSucc = 0 from rfl, show (dats m 0 c).owed t.succ = 0 from rfl]
  unfold owns Φ
  iintro ⟨⟨Hh, Hi, HA, HS, HC⟩, ⟨%W, -, HW⟩, ⟨%d0, %gO, -, HO⟩⟩
  sl_rw [prog_eq t]
  iapply (bodyRun c (XFm m c) (XMm m c) (win0_0.stage (cfg0.slots t 0)) (hstage0_0 0))
  isplitl [Hh Hi HA HS HC HO HW]
  · isplitl [HO]; · iexists gO; iexact HO
    isplitl [HA]; · iexact HA
    isplitl [HS]; · iexact HS
    isplitl [HC]; · iexact HC
    isplitl [Hh]; · iexact Hh
    isplitl [Hi]; · iexact Hi
    iexists W; iexact HW
  · iintro ⟨⟨%O, HO, %eO⟩, HA, HS, HC, Hh, Hi, ⟨%W', HW⟩⟩
    isplitl [HA HS HC Hh Hi]
    · isplitl [Hh]; · iexact Hh
      isplitl [Hi]; · iexact Hi
      isplitl [HA]; · iexact HA
      isplitl [HS]; · iexact HS
      iexact HC
    isplitl [HW]
    · iexists W'; isplitr; · ipureintro; exact fun _ _ => Or.inl trivial
      iexact HW
    iexists O; isplitr; · ipureintro; exact eO
    iexact HO

/-! ## The run -/

set_option maxHeartbeats 800000 in
theorem main_runs : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain

def intoΦ (c : Dev nD) : sProp 𝕄 := iprop(bigSep Finset.univ (homesP c (XFm m c) (XMm m c)) ∗ Pipeline.ownSems0 osem c)
def outOfΦ (c : Dev nD) : sProp 𝕄 := bigSep Finset.univ (homesP c (XFm m c) (XMm m c))
/-- The mask array, which the kernel leaves alone. -/
def besideΦ (c : Dev nD) : sProp 𝕄 := ((c : Thread nD τ).loc main_arg1) ↦{fullShare} V m c main_arg1
def u₀ : UU nD τ := (initOf (Pipeline.cells cfgs Cert.KernelIdeal.Gen.cellOf_inj) (Pipeline.launchToks cfgs Cert.KernelIdeal.Gen.cellOf_inj), 1)
def finalA (c : Dev nD) (w : Fin cfg0.W) : Buf (Elt F) ((cfg0.win w).arr.view.loc (c : Thread nD τ)) := (dats m 0 c).arrAt w cfg0.N
def QY (c : Dev nD) (s : MemSt nD τ sig (Elt F)) : Prop :=
  s.mem ((c : Thread nD τ).loc main_arg0) = V m c main_arg0 ∧ s.mem ((c : Thread nD τ).loc main_arg1) = V m c main_arg1
def QC : PUnit × MemSt nD τ sig (Elt F) → Prop := fun r =>
  ∀ c : Dev nD, (∀ w : Fin cfg0.W, r.2.mem ((cfg0.win w).arr.view.loc (c : Thread nD τ)) = finalA m c w) ∧ QY m c r.2

set_option backward.isDefEq.respectTransparency.types false in
/-- From any memory with zero counters, every weakly fair execution of @main on the TensorCores terminates, and every
    final state has the result array at the computed contents, both arguments unchanged and every counter at zero. -/
theorem run_main : θ_run defs (onTc (τ := τ) (main (F := F))) ⟨m, fun _ => 0, ρ⟩ (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := main_runs m)
    (hA := fun _ _ => rfl)
    (X := intoΦ m) (Y := outOfΦ m) (Z := besideΦ m)
    (hX := fun c => by
      rw [unscopedRest0_eq]
      unfold intoΦ besideΦ; rw [← arrays_eq c (XFm m c) (XMm m c)]
      iintro ⟨⟨H0, H1, -, -, H2⟩, HS, -, -, -⟩; imodintro
      isplitl [H0 H2 HS]
      · isplitl [H0 H2]
        · isplitl [H0]; · iexact H0
          iexact H2
        iexact HS
      iexact H1)
    (hin := fun c => by
      rw [scopedRest0_eq, show (dats m 0 c).Φ 0 = Φ m c from rfl]
      unfold intoΦ Φ idleP; rw [ownSems0_eq]
      iintro ⟨⟨Hh, Cf0, Cf1, Cf2, Cf3, Cm0, Cm1, Cm2, Cm3⟩, Hf, Hm, ⟨%A, HA⟩, ⟨%S, HS⟩, ⟨%C, HC⟩⟩
      ihave Hf := (fbuf_split c) $$ Hf
      icases Hf with ⟨Sf0, Sf1, Sf2, Sf3⟩
      ihave Hm := (mbuf_split c) $$ Hm
      icases Hm with ⟨Sm0, Sm1, Sm2, Sm3⟩
      isplitl [Hh]; · iexact Hh
      isplitl [Cf0 Cf1 Cf2 Cf3 Cm0 Cm1 Cm2 Cm3 Sf0 Sf1 Sf2 Sf3 Sm0 Sm1 Sm2 Sm3]
      · isplitl [Sf0]; · iexact Sf0
        isplitl [Sm0]; · iexact Sm0
        isplitl [Sf1]; · iexact Sf1
        isplitl [Sm1]; · iexact Sm1
        isplitl [Sf2]; · iexact Sf2
        isplitl [Sm2]; · iexact Sm2
        isplitl [Sf3]; · iexact Sf3
        isplitl [Sm3]; · iexact Sm3
        isplitl [Cf0 Cf1 Cf2 Cf3]
        · isplitl [Cf0]; · iexact Cf0
          isplitl [Cf1]; · iexact Cf1
          isplitl [Cf2]; · iexact Cf2
          iexact Cf3
        isplitl [Cm0]; · iexact Cm0
        isplitl [Cm1]; · iexact Cm1
        isplitl [Cm2]; · iexact Cm2
        iexact Cm3
      isplitl [HA]; · iexists A; iapply (Entails.of_eq (whole_eq c cc0_scratch2 A)); iexact HA
      isplitl [HS]; · iexists S; iapply (Entails.of_eq (whole_eq c cc0_scratch3 S)); iexact HS
      iexists C; iapply (Entails.of_eq (whole_eq c cc0_scratch4 C)); iexact HC)
    (hout := fun c => by
      rw [scopedRest0_eq, show (dats m 0 c).Φ (Fin.last cfg0.N) = Φ m c from rfl, ownSems0_eq]
      unfold Φ outOfΦ idleP
      iintro ⟨Hh, ⟨Sf0, Sm0, Sf1, Sm1, Sf2, Sm2, Sf3, Sm3, ⟨Cf0, Cf1, Cf2, Cf3⟩, Cm0, Cm1, Cm2, Cm3⟩, ⟨%A, HA⟩, ⟨%S, HS⟩, ⟨%C, HC⟩⟩
      isplitl [Hh]; · iexact Hh
      isplitl [Cf0 Cf1 Cf2 Cf3 Cm0 Cm1 Cm2 Cm3]
      · isplitl [Cf0]; · iexact Cf0
        isplitl [Cf1]; · iexact Cf1
        isplitl [Cf2]; · iexact Cf2
        isplitl [Cf3]; · iexact Cf3
        isplitl [Cm0]; · iexact Cm0
        isplitl [Cm1]; · iexact Cm1
        isplitl [Cm2]; · iexact Cm2
        iexact Cm3
      isplitl [Sf0 Sf1 Sf2 Sf3]
      · iapply (fbuf_join c)
        isplitl [Sf0]; · iexact Sf0
        isplitl [Sf1]; · iexact Sf1
        isplitl [Sf2]; · iexact Sf2
        iexact Sf3
      isplitl [Sm0 Sm1 Sm2 Sm3]
      · iapply (mbuf_join c)
        isplitl [Sm0]; · iexact Sm0
        isplitl [Sm1]; · iexact Sm1
        isplitl [Sm2]; · iexact Sm2
        iexact Sm3
      isplitl [HA]; · iexists A; iapply (Entails.of_eq (whole_eq c cc0_scratch2 A).symm); iexact HA
      isplitl [HS]; · iexists S; iapply (Entails.of_eq (whole_eq c cc0_scratch3 S).symm); iexact HS
      iexists C; iapply (Entails.of_eq (whole_eq c cc0_scratch4 C).symm); iexact HC)
    (QY := QY m)
    (hY := fun c s' => by
      unfold outOfΦ besideΦ; rw [← arrays_eq c (XFm m c) (XMm m c)]
      iintro ⟨⟨H0, -⟩, H1, HSI⟩
      icombine HSI H0 gives %h0
      icombine HSI H1 gives %h1
      imodintro
      isplitr; · ipureintro; exact ⟨Buf.eq_of_forall_mem_univ h0, Buf.eq_of_forall_mem_univ h1⟩
      iexact HSI)
    (hQ := fun _ hh hz => ⟨hh, hz⟩)

/-- The result array's contents at the end: the batches' rows. -/
theorem finalA_out (c : Dev nD) : finalA m c 0 = outVal c (XFm m c) (XMm m c) :=
  (dats m 0 c).arrAt_eq_of_after_last 0 t0_0 (by decide +kernel) _ fun j => rfl

/-- The run, buffer by buffer: the result, the two arguments, the counters. -/
theorem run_values : θ_run defs (onTc (τ := τ) (main (F := F))) ⟨m, fun _ => 0, ρ⟩ (fun r => (∀ c : Dev nD,
      r.2.mem ((c : Thread nD τ).loc main_v3) = outVal c (XFm m c) (XMm m c)
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ hh => ⟨fun c => ⟨((hh.1 c).1 0).trans (finalA_out m c),
    (hh.1 c).2.1.trans (V_main_arg0 m c), (hh.1 c).2.2.trans (V_main_arg1 m c)⟩, hh.2⟩) (run_main m ρ)

end Launch

end Cert.KernelIdeal.Hand

end
-- ==== Proof.Claims.Runs.lean ====
/-
  The frame claims and the rewrite of the named constant: the kernel as printed and the kernel over the extended
  reals end with both arguments unchanged and every counter at zero, whatever the memory; the reference, a program of
  host operations with no semaphore, likewise.
-/
module

public import proofs.«01_k».proof.Defs
public import proofs.«01_k».proof.Proof.Hand.Launch
public import proofs.«01_k».proof.Proof.HandIdeal.Launch
public import proofs.«01_k».proof.Proof.Gen.ReferenceIdeal.Run

@[expose] public section

noncomputable section

namespace Cert.Claims

open Idealize.ShloMosaic Idealize.SL.Sem

/-- The kernel as printed. -/
theorem kernel_frame : Cert.quiescent_Kernel := fun m g _ =>
  (θ_run Cert.Kernel.defs _ _).mono (fun _ h => ⟨fun c => (h.1 c).2, h.2⟩) (Cert.Kernel.Hand.run_values (F := Bits) m g)

/-- The kernel over the extended reals. -/
theorem ideal_frame : Cert.quiescent_KernelIdeal := fun m g _ =>
  (θ_run Cert.KernelIdeal.defs _ _).mono (fun _ h => ⟨fun c => (h.1 c).2, h.2⟩) (Cert.KernelIdeal.Hand.run_values (F := Ideal) m g)

/-- The reference over the extended reals. -/
theorem reference_frame : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- The constant that the running maximum starts from is named −∞. -/
theorem names_kept : Cert.preserves_Kernel_KernelIdeal :=
  IdealRules.named_const.statement Cert.KernelIdeal.κ "neg" .f32 0xF149F2CA#32 ⊥ rfl

end Cert.Claims

end
-- ==== Proof.Value.Reads.lean ====
/-
  What the loads and the copies read, element by element: a tile loaded from a slot is a block of the chunk the slot
  holds, and a chunk is 512 rows of a batch.
-/
module

public import proofs.«01_k».proof.Proof.Hand.Launch
public import Idealize.ShloMosaic.Lib.Pointwise

@[expose] public section

set_option maxRecDepth 16384

noncomputable section

namespace Cert.KernelIdeal.Reads

open Cert.KernelIdeal Cert.KernelIdeal.Gen Cert.KernelIdeal.Hand
open Idealize.ShloMosaic Idealize.ShloMosaic.TcCoe
open Idealize.SL.Sem

variable {F : FTy → Type} [FloatOps F] [Named F]

/-- A two-coordinate index seen with a leading axis of size one. -/
theorem lead_f (h : S1x512x1024.numel = S512x1024.numel) (i : Fin 512) (d : Fin 1024) :
    Shape.reshapeEquiv (s := S1x512x1024) (s' := S512x1024) h.symm (ix2 i d) = ix3 0 i d :=
  Shape.reshapeEquiv_cons_one _ _ |>.trans (by funext a; fin_cases a <;> rfl)
theorem lead_m (h : S1x512x128.numel = S512x128.numel) (i : Fin 512) (d : Fin 128) :
    Shape.reshapeEquiv (s := S1x512x128) (s' := S512x128) h.symm (ix2 i d) = ix3 0 i d :=
  Shape.reshapeEquiv_cons_one _ _ |>.trans (by funext a; fin_cases a <;> rfl)

/-- A load through a memref of a slot (a rectangle of it, squeezed) that holds `x` reads `x`. -/
theorem load_slot {Val : EltTy → Type} [∀ e, Nonempty (Val e)] {κ : Kind} {sp : Space} {s s' : Shape} {e : EltTy}
    (m : Memref sig κ sp s e) (R : Rect s) (h₁ : ∀ a, R.stride a = 1) (h₂ : R.shape.Squeezes s')
    (f : ((m.slice R h₁).squeeze s' h₂).view.ty.Contents Val) (x : s'.Idx → Val e) (L : LoadRect s) (y : L.shape.Idx) (z : s'.Idx)
    (hz : L.idx y = R.emb (Shape.reshapeEquiv h₂.numel_eq z)) :
    View.readAt Val m.view L (((m.slice R h₁).squeeze s' h₂).view.writes Val f [⟨Rect.whole s', x⟩]) y = x z :=
  (congrArg (fun t => m.view.read Val (((m.slice R h₁).squeeze s' h₂).view.writes Val f [⟨Rect.whole s', x⟩]) t) hz).trans
    (congrFun (View.read_writes_whole (Val := Val) ((m.slice R h₁).squeeze s' h₂).view f x) z)

/-- Tile `q` of row group `r`: rows `64r …`, columns `128q …` of the chunk in the slot. -/
theorem fld_apply (j : Fin 4) (r q : Nat) (hr : r < 8) (hq : q < 8) (x : S512x1024.Idx → Elt F .f32) (i : Fin 64) (l : Fin 128) :
    fld (F := F) j r q x (ix3 0 i l)
      = x (ix2 ⟨64 * r + i.val, by have := i.isLt; omega⟩ ⟨128 * q + l.val, by have := l.isLt; omega⟩) := by
  refine load_slot fbM (Rect.unit (s := S4x512x1024) (slOff j) S1x512x1024.size (slOff_inb_f j)) (fun _ => rfl)
    squeezes_S1x512x1024_S512x1024 (fsl j).view.junk x
    (Rect.unit (s := S4x512x1024) ![j.val, 64 * (r % 8), 128 * (q % 8)] S1x64x128.size (fld_inb j r q)).toLoadRect (ix3 0 i l) (ix2 _ _) ?_
  refine Eq.trans ?_ (congrArg _ (lead_f rfl _ _).symm)
  funext a
  apply Fin.ext
  fin_cases a
  · rfl
  · show 64 * (r % 8) + 1 * i.val = 0 + 1 * (64 * r + i.val)
    omega
  · show 128 * (q % 8) + 1 * l.val = 0 + 1 * (128 * q + l.val)
    omega

/-- The mask's words of row group `r`. -/
theorem mld_apply (j : Fin 4) (r : Nat) (hr : r < 8) (w : S512x128.Idx → Elt F .i8) (i : Fin 64) (l : Fin 128) :
    mld (F := F) j r w (ix3 0 i l) = w (ix2 ⟨64 * r + i.val, by have := i.isLt; omega⟩ l) := by
  refine load_slot mbM (Rect.unit (s := S4x512x128) (slOff j) S1x512x128.size (slOff_inb_m j)) (fun _ => rfl)
    squeezes_S1x512x128_S512x128 (msl j).view.junk w
    (Rect.unit (s := S4x512x128) ![j.val, 64 * (r % 8), 0] S1x64x128.size (mld_inb j r)).toLoadRect (ix3 0 i l) (ix2 _ _) ?_
  refine Eq.trans ?_ (congrArg _ (lead_m rfl _ _).symm)
  funext a
  apply Fin.ext
  fin_cases a
  · rfl
  · show 64 * (r % 8) + 1 * i.val = 0 + 1 * (64 * r + i.val)
    omega
  · show 0 + 1 * l.val = 0 + 1 * l.val
    rfl

/-- Slot `j`'s chunk of trip `t`: rows `512 n …` of batch `b`, where `4 t + j = 8 b + n`. -/
theorem fpay_apply (c : Dev nD) (XF : Buf (Elt F) (ftM.view.loc (c : Thread nD τ))) (j : Fin 4) (t : Fin 32) (b n : Nat)
    (hb : b < 16) (hn : n < 8) (ht : 4 * t.val + j.val = 8 * b + n) (i : Fin 512) (d : Fin 1024) :
    fpay c XF j t (ix2 i d) = XF (ix3 ⟨b, hb⟩ ⟨512 * n + i.val, by have := i.isLt; omega⟩ d) := by
  refine congrArg (fun z => XF z) (Eq.trans (congrArg (Rect.unit (s := S16x4096x1024) (chOff j t) S1x512x1024.size (chOff_inb_f j t)).emb
    (lead_f rfl i d)) ?_)
  funext a
  apply Fin.ext
  fin_cases a
  · show (4 * t.val + j.val) / 8 + 1 * 0 = b
    omega
  · show 512 * ((4 * t.val + j.val) % 8) + 1 * i.val = 512 * n + i.val
    omega
  · show 0 + 1 * d.val = d.val
    omega

/-- The same of the mask's words. -/
theorem mpay_apply (c : Dev nD) (XM : Buf (Elt F) (mskM.view.loc (c : Thread nD τ))) (j : Fin 4) (t : Fin 32) (b n : Nat)
    (hb : b < 16) (hn : n < 8) (ht : 4 * t.val + j.val = 8 * b + n) (i : Fin 512) (d : Fin 128) :
    mpay c XM j t (ix2 i d) = XM (ix3 ⟨b, hb⟩ ⟨512 * n + i.val, by have := i.isLt; omega⟩ d) := by
  refine congrArg (fun z => XM z) (Eq.trans (congrArg (Rect.unit (s := S16x4096x128) (chOff j t) S1x512x128.size (chOff_inb_m j t)).emb
    (lead_m rfl i d)) ?_)
  funext a
  apply Fin.ext
  fin_cases a
  · show (4 * t.val + j.val) / 8 + 1 * 0 = b
    omega
  · show 512 * ((4 * t.val + j.val) % 8) + 1 * i.val = 512 * n + i.val
    omega
  · show 0 + 1 * d.val = d.val
    omega

end Cert.KernelIdeal.Reads

end
-- ==== Proof.Value.Tiles.lean ====
/-
  One tile over the extended reals: its maximum and sum down the rows, and a group's count, when the mask's words are
  zeros and ones.
-/
module

public import proofs.«01_k».proof.Proof.Value.Reads

@[expose] public section

set_option maxRecDepth 16384

noncomputable section

namespace Cert.KernelIdeal.Tiles

open Cert.KernelIdeal Cert.KernelIdeal.Gen Cert.KernelIdeal.Hand
open Idealize.ShloMosaic Idealize.ShloMosaic.TcCoe

/-! ## The constants -/

/-- What stands for a dropped row before the maximum. -/
def low : EReal := Ideal.ofBits .f32 0xF149F2CA#32

theorem big_eq : Ideal.ofBits .f32 0x7149F2CA#32 = -low := by
  unfold low
  simp [Ideal.ofBits, Ideal.ieee, -EReal.coe_mul]
theorem per_lane : Ideal.ofBits .f32 0x3C000000#32 = (((1 : ℝ) / 128 : ℝ) : EReal) := by
  simp [Ideal.ofBits, Ideal.ieee, -EReal.coe_mul]; norm_num
theorem bottom : Ideal.ofBits .f32 0xFF800000#32 = ⊥ := by
  simp [Ideal.ofBits, Ideal.ieee]

theorem one_sub_one : (1 : EReal) - 1 = 0 := by
  rw [← EReal.coe_one, ← EReal.coe_sub, sub_self, EReal.coe_zero]

/-- Natural numbers summed as extended reals. -/
theorem sum_naturals (n : Nat) (f : Fin n → Nat) : ∑ i, (((f i : ℕ) : ℝ) : EReal) = (((∑ i, f i : ℕ) : ℝ) : EReal) := by
  induction n with
  | zero => simp
  | succ n ih => rw [Fin.sum_univ_succ, Fin.sum_univ_succ, ih, Nat.cast_add, EReal.coe_add]

/-! ## The weights -/

/-- A word of the mask: one where the row is kept. -/
abbrev word (p : Prop) [Decidable p] : BitVec 8 := if p then 1#8 else 0#8

variable (lm : Vec Ideal S1x64x128 .i8) (lf : Vec Ideal S1x64x128 .f32) (p : Fin 64 → Prop) [DecidablePred p]

theorem wts_apply (hm : ∀ i l, lm (ix3 0 i l) = word (p i)) (i : Fin 64) (l : Fin 128) :
    wts (F := Ideal) lm (ix2 i l) = if p i then (1 : EReal) else 0 := by
  pointwise [wts]
  rw [hm]
  by_cases h : p i
  · simp only [word, if_pos h]
    show (((1#8 : BitVec 8).toInt : ℝ) : EReal) = 1
    rw [show (1#8 : BitVec 8).toInt = 1 from by decide]; simp
  · simp only [word, if_neg h]
    show (((0#8 : BitVec 8).toInt : ℝ) : EReal) = 0
    rw [show (0#8 : BitVec 8).toInt = 0 from by decide]; simp

theorem kept_apply (hm : ∀ i l, lm (ix3 0 i l) = word (p i)) (i : Fin 64) (l : Fin 128) :
    kept (F := Ideal) lm lf (ix2 i l) = if p i then lf (ix3 0 i l) else (0 : EReal) := by
  pointwise [kept]
  rw [wts_apply lm p hm]
  by_cases h : p i
  · rw [if_pos h, if_pos h, mul_one]
  · rw [if_neg h, if_neg h, mul_zero]

theorem pen_apply (hm : ∀ i l, lm (ix3 0 i l) = word (p i)) (i : Fin 64) (l : Fin 128) :
    pen (F := Ideal) lm (ix2 i l) = if p i then (0 : EReal) else low := by
  pointwise [pen]
  rw [wts_apply lm p hm]
  by_cases h : p i
  · simp [h, one_sub_one]
  · simp [h, big_eq]

theorem tileMax_apply (hm : ∀ i l, lm (ix3 0 i l) = word (p i)) (l : Fin 128) :
    tileMax (F := Ideal) lm lf (ix1 l)
      = Finset.univ.fold max (⊥ : EReal) (fun i : Fin 64 => if p i then lf (ix3 0 i l) else low) := by
  pointwise [tileMax]
  rw [bottom]
  refine congrArg (fun g : Fin 64 → EReal => Finset.univ.fold max (⊥ : EReal) g) (funext fun i => ?_)
  rw [kept_apply lm lf p hm, pen_apply lm p hm]
  by_cases h : p i
  · simp [h]
  · simp [h]

theorem tileSum_apply (hm : ∀ i l, lm (ix3 0 i l) = word (p i)) (l : Fin 128) :
    tileSum (F := Ideal) lm lf (ix1 l) = ∑ i : Fin 64, if p i then lf (ix3 0 i l) else (0 : EReal) := by
  pointwise [tileSum]
  exact Finset.sum_congr rfl fun i _ => kept_apply lm lf p hm i l

/-- A group's count is the number of its kept rows: the words' sum over the 128 lanes, times 1/128. -/
theorem groupCnt_apply (hm : ∀ i l, lm (ix3 0 i l) = word (p i)) :
    groupCnt (F := Ideal) lm = (((∑ i : Fin 64, if p i then 1 else 0 : ℕ) : ℝ) : EReal) := by
  pointwise [groupCnt]
  simp only [wts_apply lm p hm]
  have hrow : ∀ i : Fin 64, (∑ _l : Fin 128, if p i then (1 : EReal) else 0) = (((128 * (if p i then 1 else 0) : ℕ) : ℝ) : EReal) := fun i => by
    rw [show (if p i then (1 : EReal) else 0) = (((if p i then 1 else 0 : ℕ) : ℝ) : EReal) from by split_ifs <;> simp,
      sum_naturals 128 fun _ => if p i then 1 else 0]
    simp
  rw [Finset.sum_congr rfl fun i _ => hrow i, sum_naturals, ← Finset.mul_sum, per_lane, ← EReal.coe_mul]
  refine congrArg (fun r : ℝ => (r : EReal)) ?_
  rw [Nat.cast_mul]
  ring

end Cert.KernelIdeal.Tiles

end
-- ==== Proof.Value.Chunks.lean ====
/-
  One chunk over the extended reals, column by column: the maximum and the sum of its 512 rows and the number of its
  kept rows, put together from the groups of 64 rows and the tiles of 128 columns.
-/
module

public import proofs.«01_k».proof.Proof.Value.Tiles

@[expose] public section

set_option maxRecDepth 16384

noncomputable section

namespace Cert.KernelIdeal.Chunks

open Cert.KernelIdeal Cert.KernelIdeal.Gen Cert.KernelIdeal.Hand Cert.KernelIdeal.Tiles Cert.KernelIdeal.Reads
open Idealize.ShloMosaic Idealize.ShloMosaic.TcCoe

/-! ## Rows counted by natural numbers -/

/-- The greatest of the first `n` values of a sequence. -/
def top (v : Nat → EReal) (n : Nat) : EReal := (Finset.range n).sup v
/-- The sum of the first `n` values of a sequence. -/
def total (v : Nat → EReal) (n : Nat) : EReal := ∑ i ∈ Finset.range n, v i
/-- How many of the first `n` numbers satisfy `P`. -/
def many (P : Nat → Prop) [DecidablePred P] (n : Nat) : Nat := ∑ i ∈ Finset.range n, if P i then 1 else 0

theorem top_fin (v : Nat → EReal) (n : Nat) : Finset.univ.fold max (⊥ : EReal) (fun i : Fin n => v i.val) = top v n := by
  show (Finset.univ : Finset (Fin n)).sup (fun i => v i.val) = _
  refine le_antisymm (Finset.sup_le fun i _ => ?_) (Finset.sup_le fun i hi => ?_)
  · exact Finset.le_sup (f := v) (Finset.mem_range.2 i.isLt)
  · exact Finset.le_sup (f := fun i : Fin n => v i.val) (Finset.mem_univ (⟨i, Finset.mem_range.1 hi⟩ : Fin n))
theorem total_fin (v : Nat → EReal) (n : Nat) : ∑ i : Fin n, v i.val = total v n := (Finset.sum_range v).symm
theorem many_fin (P : Nat → Prop) [DecidablePred P] (n : Nat) : ∑ i : Fin n, (if P i.val then 1 else 0 : ℕ) = many P n :=
  (Finset.sum_range fun i => if P i then 1 else 0).symm

theorem top_add (v : Nat → EReal) (a n : Nat) : max (top v a) (top (fun i => v (a + i)) n) = top v (a + n) := by
  refine le_antisymm (max_le (Finset.sup_mono (Finset.range_mono (Nat.le_add_right a n))) (Finset.sup_le fun i hi => ?_))
    (Finset.sup_le fun i hi => ?_)
  · exact Finset.le_sup (f := v) (Finset.mem_range.2 (Nat.add_lt_add_left (Finset.mem_range.1 hi) a))
  · rcases Nat.lt_or_ge i a with h | h
    · exact le_max_of_le_left (Finset.le_sup (f := v) (Finset.mem_range.2 h))
    · obtain ⟨k, rfl⟩ := Nat.exists_eq_add_of_le h
      exact le_max_of_le_right (Finset.le_sup (f := fun i => v (a + i))
        (Finset.mem_range.2 (Nat.lt_of_add_lt_add_left (Finset.mem_range.1 hi))))
theorem total_add (v : Nat → EReal) (a n : Nat) : total v a + total (fun i => v (a + i)) n = total v (a + n) :=
  (Finset.sum_range_add v a n).symm
theorem many_add (P : Nat → Prop) [DecidablePred P] (a n : Nat) : many P a + many (fun i => P (a + i)) n = many P (a + n) :=
  (Finset.sum_range_add (fun i => if P i then 1 else 0) a n).symm

/-! ## A chunk that holds rows `i` with entries `G i d`, kept where `P i` -/

/-- Row `i`'s entry as it enters the maximum. -/
def pick (P : Nat → Prop) [DecidablePred P] (G : Nat → Nat → EReal) (d i : Nat) : EReal := if P i then G i d else low
/-- Row `i`'s entry as it enters the sum. -/
def keep (P : Nat → Prop) [DecidablePred P] (G : Nat → Nat → EReal) (d i : Nat) : EReal := if P i then G i d else 0

variable (j : Fin 4) (w : S512x128.Idx → Elt Ideal .i8) (x : S512x1024.Idx → Elt Ideal .f32)
variable (P : Nat → Prop) [DecidablePred P] (G : Nat → Nat → EReal)

section Chunk
variable (hw : ∀ (i : Fin 512) (l : Fin 128), w (ix2 i l) = word (P i.val)) (hx : ∀ (i : Fin 512) (d : Fin 1024), x (ix2 i d) = G i.val d.val)
include hw

theorem mld_word (r : Nat) (hr : r < 8) (i : Fin 64) (l : Fin 128) :
    mld (F := Ideal) j r w (ix3 0 i l) = word (P (64 * r + i.val)) :=
  (mld_apply j r hr w i l).trans (hw _ _)

theorem group_count (r : Nat) (hr : r < 8) :
    groupCnt (F := Ideal) (mld j r w) = ((many (fun i => P (64 * r + i)) 64 : ℝ) : EReal) := by
  rw [groupCnt_apply _ (fun i : Fin 64 => P (64 * r + i.val)) (mld_word j w P hw r hr)]
  rw [← many_fin]

theorem count_up (n : Nat) (hn : n < 8) :
    cntUp (F := Ideal) (fun r => groupCnt (mld j r w)) n = ((many P (64 * n + 64) : ℝ) : EReal) := by
  induction n with
  | zero =>
    show Ideal.ofBits .f32 0x00000000#32 + groupCnt (F := Ideal) (mld j 0 w) = _
    rw [group_count j w P hw 0 hn, Ideal.ofBits_zero_f32, zero_add]
    simp only [Nat.mul_zero, Nat.zero_add]
  | succ n ih =>
    show (cntUp (F := Ideal) (fun r => groupCnt (mld j r w)) n : EReal) + groupCnt (F := Ideal) (mld j (n + 1) w) = _
    rw [ih (by omega), group_count j w P hw (n + 1) hn, ← EReal.coe_add, ← Nat.cast_add, ← many_add P (64 * (n + 1)) 64]
    rfl

theorem chunk_count : chunkCnt (F := Ideal) j w = ((many P 512 : ℝ) : EReal) := count_up j w P hw 7 (by omega)

include hx

theorem fld_entry (r q : Nat) (hr : r < 8) (hq : q < 8) (i : Fin 64) (l : Fin 128) :
    fld (F := Ideal) j r q x (ix3 0 i l) = G (64 * r + i.val) (128 * q + l.val) :=
  (fld_apply j r q hr hq x i l).trans (hx _ _)

theorem tile_max (r q : Nat) (hr : r < 8) (hq : q < 8) (l : Fin 128) :
    tileMax (F := Ideal) (mld j r w) (fld j r q x) (ix1 l) = top (fun i => pick P G (128 * q + l.val) (64 * r + i)) 64 := by
  rw [tileMax_apply _ _ (fun i : Fin 64 => P (64 * r + i.val)) (mld_word j w P hw r hr), ← top_fin]
  simp only [fld_entry j w x P G hw hx r q hr hq, pick]

theorem tile_sum (r q : Nat) (hr : r < 8) (hq : q < 8) (l : Fin 128) :
    tileSum (F := Ideal) (mld j r w) (fld j r q x) (ix1 l) = total (fun i => keep P G (128 * q + l.val) (64 * r + i)) 64 := by
  rw [tileSum_apply _ _ (fun i : Fin 64 => P (64 * r + i.val)) (mld_word j w P hw r hr), ← total_fin]
  simp only [fld_entry j w x P G hw hx r q hr hq, keep]

theorem max_up (q : Nat) (hq : q < 8) (l : Fin 128) (n : Nat) (hn : n < 8) :
    maxUp (F := Ideal) (fun r => tileMax (mld j r w) (fld j r q x)) n (ix1 l) = top (pick P G (128 * q + l.val)) (64 * n + 64) := by
  induction n with
  | zero =>
    refine (tile_max j w x P G hw hx 0 q hn hq l).trans ?_
    simp only [Nat.mul_zero, Nat.zero_add]
  | succ n ih =>
    show max (maxUp (F := Ideal) (fun r => tileMax (mld j r w) (fld j r q x)) n (ix1 l) : EReal)
      (tileMax (F := Ideal) (mld j (n + 1) w) (fld j (n + 1) q x) (ix1 l)) = _
    rw [ih (by omega), tile_max j w x P G hw hx (n + 1) q hn hq l, ← top_add _ (64 * (n + 1)) 64]
    rfl

theorem sum_up (q : Nat) (hq : q < 8) (l : Fin 128) (n : Nat) (hn : n < 8) :
    sumUp (F := Ideal) (fun r => tileSum (mld j r w) (fld j r q x)) n (ix1 l) = total (keep P G (128 * q + l.val)) (64 * n + 64) := by
  induction n with
  | zero =>
    refine (tile_sum j w x P G hw hx 0 q hn hq l).trans ?_
    simp only [Nat.mul_zero, Nat.zero_add]
  | succ n ih =>
    show (sumUp (F := Ideal) (fun r => tileSum (mld j r w) (fld j r q x)) n (ix1 l) : EReal)
      + tileSum (F := Ideal) (mld j (n + 1) w) (fld j (n + 1) q x) (ix1 l) = _
    rw [ih (by omega), tile_sum j w x P G hw hx (n + 1) q hn hq l, ← total_add _ (64 * (n + 1)) 64]
    rfl

end Chunk

/-- Eight tiles side by side: tile `q`'s lane `l` is column `128 q + l`. -/
theorem row8_apply (t : Nat → FVec Ideal S128 .f32) (h : Nat → EReal)
    (ht : ∀ q, q < 8 → ∀ l : Fin 128, t q (ix1 l) = h (128 * q + l.val)) (d : Fin 1024) :
    row8 (F := Ideal) t (ix2 0 d) = h d.val := by
  pointwise [row8]
  have hd := d.isLt
  split_ifs <;> refine (ht _ (by omega) _).trans (congrArg h ?_) <;> dsimp only <;> omega

theorem chunk_max (hw : ∀ (i : Fin 512) (l : Fin 128), w (ix2 i l) = word (P i.val))
    (hx : ∀ (i : Fin 512) (d : Fin 1024), x (ix2 i d) = G i.val d.val) (d : Fin 1024) :
    chunkMax (F := Ideal) j w x (ix2 0 d) = top (pick P G d.val) 512 :=
  row8_apply _ (fun d => top (pick P G d) 512) (fun q hq l => max_up j w x P G hw hx q hq l 7 (by omega)) d

theorem chunk_sum (hw : ∀ (i : Fin 512) (l : Fin 128), w (ix2 i l) = word (P i.val))
    (hx : ∀ (i : Fin 512) (d : Fin 1024), x (ix2 i d) = G i.val d.val) (d : Fin 1024) :
    chunkSum (F := Ideal) j w x (ix2 0 d) = total (keep P G d.val) 512 :=
  row8_apply _ (fun d => total (keep P G d) 512) (fun q hq l => sum_up j w x P G hw hx q hq l 7 (by omega)) d

end Cert.KernelIdeal.Chunks

end
-- ==== Proof.Value.Batches.lean ====
/-
  One batch over the extended reals: its eight chunks lie one after the other, so that after its two trips the running
  maximum, sum and count are those of all its 4096 rows, and the row written is the maximum and the mean.
-/
module

public import proofs.«01_k».proof.Proof.Value.Chunks

@[expose] public section

set_option maxRecDepth 16384

noncomputable section

namespace Cert.KernelIdeal.Batches

open Cert.KernelIdeal Cert.KernelIdeal.Gen Cert.KernelIdeal.Hand Cert.KernelIdeal.Tiles Cert.KernelIdeal.Reads Cert.KernelIdeal.Chunks
open Idealize.ShloMosaic Idealize.ShloMosaic.TcCoe

/-- A row number, and a column number, as a coordinate. -/
abbrev row (l : Nat) : Fin 4096 := ⟨l % 4096, Nat.mod_lt _ (by decide)⟩
abbrev col (d : Nat) : Fin 1024 := ⟨d % 1024, Nat.mod_lt _ (by decide)⟩

/-- The mask keeps row `l` of batch `b`. -/
abbrev on (M : S16x4096.Idx → BitVec 1) (b : Fin 16) (l : Nat) : Prop := M (ix2 b (row l)) = 1#1
/-- The entry of batch `b` at row `l`, column `d`. -/
abbrev at3 (f : S16x4096x1024.Idx → EReal) (b : Fin 16) (l d : Nat) : EReal := f (ix3 b (row l) (col d))

/-- The maximum, the sum and the count of the first `n` rows of batch `b`, in column `d`. -/
abbrev tops (M : S16x4096.Idx → BitVec 1) (f : S16x4096x1024.Idx → EReal) (b : Fin 16) (d n : Nat) : EReal := top (pick (on M b) (at3 f b) d) n
abbrev totals (M : S16x4096.Idx → BitVec 1) (f : S16x4096x1024.Idx → EReal) (b : Fin 16) (d n : Nat) : EReal := total (keep (on M b) (at3 f b) d) n
abbrev manys (M : S16x4096.Idx → BitVec 1) (b : Fin 16) (n : Nat) : EReal := ((many (on M b) n : ℝ) : EReal)

variable (c : Dev nD) (XF : Buf (Elt Ideal) (ftM.view.loc (c : Thread nD τ))) (XM : Buf (Elt Ideal) (mskM.view.loc (c : Thread nD τ)))
variable (M : S16x4096.Idx → BitVec 1) (f : S16x4096x1024.Idx → EReal)

section Steps
variable (hF : XF = f) (hM : ∀ (b : Fin 16) (l : Fin 4096) (e : Fin 128), XM (ix3 b l e) = word (M (ix2 b l) = 1#1))
variable (j : Fin 4) (t : Fin 32) (b n : Nat) (hb : b < 16) (hn : n < 8) (ht : 4 * t.val + j.val = 8 * b + n)

include hM hn ht in
theorem chunk_words (i : Fin 512) (l : Fin 128) :
    mpay c XM j t (ix2 i l) = word (on M ⟨b, hb⟩ (512 * n + i.val)) := by
  have h := i.isLt
  rw [mpay_apply c XM j t b n hb hn ht i l, hM]
  have e : row (512 * n + i.val) = ⟨512 * n + i.val, by omega⟩ := Fin.ext (Nat.mod_eq_of_lt (by omega))
  simp only [on, e]

include hF hn ht in
theorem chunk_entries (i : Fin 512) (d : Fin 1024) :
    fpay c XF j t (ix2 i d) = at3 f ⟨b, hb⟩ (512 * n + i.val) d.val := by
  subst hF
  have h := i.isLt
  rw [fpay_apply c XF j t b n hb hn ht i d]
  have e : row (512 * n + i.val) = ⟨512 * n + i.val, by omega⟩ := Fin.ext (Nat.mod_eq_of_lt (by omega))
  have e' : col d.val = d := Fin.ext (Nat.mod_eq_of_lt d.isLt)
  simp only [at3, e, e']

include hM hn ht in
theorem count_step (a : EReal) (ha : a = manys M ⟨b, hb⟩ (512 * n)) :
    cntStep (F := Ideal) j (mpay c XM j t) a = manys M ⟨b, hb⟩ (512 * (n + 1)) := by
  show a + (chunkCnt (F := Ideal) j (mpay c XM j t) : EReal) = _
  rw [chunk_count j _ (fun i => on M ⟨b, hb⟩ (512 * n + i)) (chunk_words c XM M hM j t b n hb hn ht), ha, ← EReal.coe_add, ← Nat.cast_add,
    many_add (on M ⟨b, hb⟩) (512 * n) 512]
  rfl

include hF hM hn ht in
theorem max_step (a : FVec Ideal S1x1024 .f32) (d : Fin 1024) (ha : a (ix2 0 d) = tops M f ⟨b, hb⟩ d.val (512 * n)) :
    maxStep (F := Ideal) j (mpay c XM j t) (fpay c XF j t) a (ix2 0 d) = tops M f ⟨b, hb⟩ d.val (512 * (n + 1)) := by
  pointwise [maxStep]
  rw [ha, chunk_max j _ _ (fun i => on M ⟨b, hb⟩ (512 * n + i)) (fun i d => at3 f ⟨b, hb⟩ (512 * n + i) d)
    (chunk_words c XM M hM j t b n hb hn ht) (chunk_entries c XF f hF j t b n hb hn ht) d]
  exact top_add (pick (on M ⟨b, hb⟩) (at3 f ⟨b, hb⟩) d.val) (512 * n) 512

include hF hM hn ht in
theorem sum_step (a : FVec Ideal S1x1024 .f32) (d : Fin 1024) (ha : a (ix2 0 d) = totals M f ⟨b, hb⟩ d.val (512 * n)) :
    sumStep (F := Ideal) j (mpay c XM j t) (fpay c XF j t) a (ix2 0 d) = totals M f ⟨b, hb⟩ d.val (512 * (n + 1)) := by
  pointwise [sumStep]
  rw [ha, chunk_sum j _ _ (fun i => on M ⟨b, hb⟩ (512 * n + i)) (fun i d => at3 f ⟨b, hb⟩ (512 * n + i) d)
    (chunk_words c XM M hM j t b n hb hn ht) (chunk_entries c XF f hF j t b n hb hn ht) d]
  exact total_add (keep (on M ⟨b, hb⟩) (at3 f ⟨b, hb⟩) d.val) (512 * n) 512

end Steps

section Batch
variable (hF : XF = f) (hM : ∀ (b : Fin 16) (l : Fin 4096) (e : Fin 128), XM (ix3 b l e) = word (M (ix2 b l) = 1#1))
variable (b : Nat) (hb : b < 16)

/-- Trip `2 b + h` works on chunks `4 h`, …, `4 h + 3` of batch `b`. -/
theorem place (h : Nat) (hh : h < 2) (hb : b < 16) (j : Fin 4) : 4 * (Ring.bk 32 (2 * b + h)).val + j.val = 8 * b + (4 * h + j.val) := by
  have e : (Ring.bk 32 (2 * b + h)).val = 2 * b + h := Nat.mod_eq_of_lt (by omega)
  rw [e]
  omega

include hM in
theorem trip_count (h : Nat) (hh : h < 2) (a : EReal) (ha : a = manys M ⟨b, hb⟩ (512 * (4 * h))) :
    tripCnt (F := Ideal) c XM (2 * b + h) a = manys M ⟨b, hb⟩ (512 * (4 * h + 4)) :=
  count_step c XM M hM 3 _ b (4 * h + 3) hb (by omega) (place b h hh hb 3) _
    (count_step c XM M hM 2 _ b (4 * h + 2) hb (by omega) (place b h hh hb 2) _
      (count_step c XM M hM 1 _ b (4 * h + 1) hb (by omega) (place b h hh hb 1) _
        (count_step c XM M hM 0 _ b (4 * h) hb (by omega) (place b h hh hb 0) _ ha)))

include hF hM in
theorem trip_max (h : Nat) (hh : h < 2) (a : FVec Ideal S1x1024 .f32) (d : Fin 1024)
    (ha : a (ix2 0 d) = tops M f ⟨b, hb⟩ d.val (512 * (4 * h))) :
    tripMax (F := Ideal) c XF XM (2 * b + h) a (ix2 0 d) = tops M f ⟨b, hb⟩ d.val (512 * (4 * h + 4)) :=
  max_step c XF XM M f hF hM 3 _ b (4 * h + 3) hb (by omega) (place b h hh hb 3) _ d
    (max_step c XF XM M f hF hM 2 _ b (4 * h + 2) hb (by omega) (place b h hh hb 2) _ d
      (max_step c XF XM M f hF hM 1 _ b (4 * h + 1) hb (by omega) (place b h hh hb 1) _ d
        (max_step c XF XM M f hF hM 0 _ b (4 * h) hb (by omega) (place b h hh hb 0) _ d ha)))

include hF hM in
theorem trip_sum (h : Nat) (hh : h < 2) (a : FVec Ideal S1x1024 .f32) (d : Fin 1024)
    (ha : a (ix2 0 d) = totals M f ⟨b, hb⟩ d.val (512 * (4 * h))) :
    tripSum (F := Ideal) c XF XM (2 * b + h) a (ix2 0 d) = totals M f ⟨b, hb⟩ d.val (512 * (4 * h + 4)) :=
  sum_step c XF XM M f hF hM 3 _ b (4 * h + 3) hb (by omega) (place b h hh hb 3) _ d
    (sum_step c XF XM M f hF hM 2 _ b (4 * h + 2) hb (by omega) (place b h hh hb 2) _ d
      (sum_step c XF XM M f hF hM 1 _ b (4 * h + 1) hb (by omega) (place b h hh hb 1) _ d
        (sum_step c XF XM M f hF hM 0 _ b (4 * h) hb (by omega) (place b h hh hb 0) _ d ha)))

/-! Before an even trip the accumulators are at their start values. -/

theorem accMax_even (b : Nat) : accMax (F := Ideal) c XF XM (2 * b) = max0 := by
  cases b with
  | zero => rfl
  | succ b => exact if_pos (show (2 * b + 1) % 2 = 1 by omega)
theorem accSum_even (b : Nat) : accSum (F := Ideal) c XF XM (2 * b) = sum0 := by
  cases b with
  | zero => rfl
  | succ b => exact if_pos (show (2 * b + 1) % 2 = 1 by omega)
theorem accCnt_even (b : Nat) : accCnt (F := Ideal) c XM (2 * b) = cnt0 := by
  cases b with
  | zero => rfl
  | succ b => exact if_pos (show (2 * b + 1) % 2 = 1 by omega)
theorem accMax_odd (b : Nat) : accMax (F := Ideal) c XF XM (2 * b + 1) = tripMax c XF XM (2 * b) max0 :=
  (if_neg (show ¬ (2 * b) % 2 = 1 by omega)).trans (congrArg _ (accMax_even c XF XM b))
theorem accSum_odd (b : Nat) : accSum (F := Ideal) c XF XM (2 * b + 1) = tripSum c XF XM (2 * b) sum0 :=
  (if_neg (show ¬ (2 * b) % 2 = 1 by omega)).trans (congrArg _ (accSum_even c XF XM b))
theorem accCnt_odd (b : Nat) : accCnt (F := Ideal) c XM (2 * b + 1) = tripCnt c XM (2 * b) cnt0 :=
  (if_neg (show ¬ (2 * b) % 2 = 1 by omega)).trans (congrArg _ (accCnt_even c XM b))

theorem max0_apply (d : Fin 1024) : max0 (F := Ideal) (ix2 0 d) = (⊥ : EReal) := by
  pointwise [max0, k0_pay12]
  rfl
theorem sum0_apply (d : Fin 1024) : sum0 (F := Ideal) (ix2 0 d) = (0 : EReal) := by
  pointwise [sum0, k0_pay13]

include hM in
theorem batch_count : tripCnt (F := Ideal) c XM (2 * b + 1) (accCnt c XM (2 * b + 1)) = manys M ⟨b, hb⟩ 4096 := by
  refine trip_count c XM M hM b hb 1 (by omega) _ ?_
  rw [accCnt_odd]
  refine trip_count c XM M hM b hb 0 (by omega) _ ?_
  show Ideal.ofBits .f32 0x00000000#32 = _
  rw [Ideal.ofBits_zero_f32]
  simp [manys, many]

include hF hM in
theorem batch_max (d : Fin 1024) :
    tripMax (F := Ideal) c XF XM (2 * b + 1) (accMax c XF XM (2 * b + 1)) (ix2 0 d) = tops M f ⟨b, hb⟩ d.val 4096 := by
  refine trip_max c XF XM M f hF hM b hb 1 (by omega) _ d ?_
  rw [accMax_odd]
  refine trip_max c XF XM M f hF hM b hb 0 (by omega) _ d ?_
  rw [max0_apply]
  simp [tops, top]

include hF hM in
theorem batch_sum (d : Fin 1024) :
    tripSum (F := Ideal) c XF XM (2 * b + 1) (accSum c XF XM (2 * b + 1)) (ix2 0 d) = totals M f ⟨b, hb⟩ d.val 4096 := by
  refine trip_sum c XF XM M f hF hM b hb 1 (by omega) _ d ?_
  rw [accSum_odd]
  refine trip_sum c XF XM M f hF hM b hb 0 (by omega) _ d ?_
  rw [sum0_apply]
  simp [totals, total]

/-! ## The row written -/

theorem mean_apply (n : EReal) (s : FVec Ideal S1x1024 .f32) (d : Fin 1024) :
    k0_pay11 (F := Ideal) n s (ix2 0 d) = s (ix2 0 d) * Ideal.div 1 n := by
  pointwise [k0_pay11]

include hF hM in
/-- Row `b` of the result in its first 1024 columns, and in its last. -/
theorem row_max (d : Fin 1024) (q : Fin 2048) (hq : q.val = d.val) :
    batchRow (F := Ideal) c XF XM b q = tops M f ⟨b, hb⟩ d.val 4096 := by
  have h : q.val < 1024 := hq ▸ d.isLt
  refine (dif_pos h).trans (Eq.trans (congrArg _ ?_) (batch_max c XF XM M f hF hM b hb d))
  funext a
  apply Fin.ext
  fin_cases a
  · rfl
  · exact hq

include hF hM in
theorem row_mean (d : Fin 1024) (q : Fin 2048) (hq : q.val = 1024 + d.val) :
    batchRow (F := Ideal) c XF XM b q = totals M f ⟨b, hb⟩ d.val 4096 * Ideal.div 1 (manys M ⟨b, hb⟩ 4096) := by
  have h : ¬ q.val < 1024 := by omega
  refine (dif_neg h).trans (Eq.trans (congrArg _ (a₂ := ix2 0 d) ?_) ?_)
  · funext a
    apply Fin.ext
    fin_cases a
    · rfl
    · show q.val - 1024 = d.val
      omega
  · rw [mean_apply, batch_sum c XF XM M f hF hM b hb d, batch_count c XM M hM b hb]

end Batch

end Cert.KernelIdeal.Batches

end
-- ==== Proof.Value.Plain.lean ====
/-
  The reference over the extended reals, column by column, in the words used for the kernel; and what the
  precondition says of the number of kept rows.
-/
module

public import proofs.«01_k».proof.Proof.Value.Batches
public import proofs.«01_k».proof.Proof.Gen.ReferenceIdeal.Run
public import proofs.«01_k».proof.Proof.Gen.Pre_every_sequence_has_a_token
public import Idealize.ShloMosaic.Lib.Routing.Ops

@[expose] public section

set_option maxRecDepth 16384

noncomputable section

namespace Cert.ReferenceIdeal.Plain

open Cert.ReferenceIdeal Cert.ReferenceIdeal.Gen
open Cert.KernelIdeal.Tiles Cert.KernelIdeal.Chunks Cert.KernelIdeal.Batches
open Idealize.ShloMosaic Idealize.ShloMosaic.TcCoe

variable (f : FVec Ideal S16x4096x1024 .f32) (M : IVec S16x4096 1)

/-- The entries with the dropped rows replaced by `z`. -/
abbrev masked (z : BitVec 32) : FVec Ideal S16x4096x1024 .f32 :=
  select (broadcastInDim S16x4096x1024 ![0, 1, 2] bcast_S16x4096x1_S16x4096x1024_0_1_2
    (broadcastInDim S16x4096x1 ![0, 1] bcast_S16x4096_S16x4096x1_0_1 M)) f
    (broadcastInDim S16x4096x1024 ![] bcast_S_S16x4096x1024 (constant S_ .f32 z))
/-- The numbers of kept rows, as words. -/
abbrev lengths : IVec S16 32 :=
  Host.reduce IntOp.addi (extui 32 M natLt_1_32) (constantI S_ 32 0#32) reducesTo_S16x4096_S16_d1 h_S_
/-- The reference's two halves. -/
abbrev maxima : FVec Ideal S16x1024 .f32 :=
  Host.reduce FloatOps.maximumf (masked f M 0xF149F2CA#32) (constant S_ .f32 0xFF800000#32) reducesTo_S16x4096x1024_S16x1024_d1 h_S_
abbrev means : FVec Ideal S16x1024 .f32 :=
  Host.divf (Host.reduceAdd (masked f M 0x00000000#32) (constant S_ .f32 0x00000000#32) reducesTo_S16x4096x1024_S16x1024_d1 h_S_)
    (broadcastInDim S16x1024 ![0, 1] bcast_S16x1_S16x1024_0_1 (broadcastInDim S16x1 ![0] bcast_S16_S16x1_0 (sitofp .f32 (lengths M))))

theorem row_val (l : Fin 4096) : row l.val = l := Fin.ext (Nat.mod_eq_of_lt l.isLt)
theorem col_val (d : Fin 1024) : col d.val = d := Fin.ext (Nat.mod_eq_of_lt d.isLt)

theorem maxima_apply (b : Fin 16) (d : Fin 1024) : maxima f M (ix2 b d) = tops M f b d.val 4096 := by
  pointwise [maxima, masked]
  rw [bottom, tops, ← top_fin]
  simp only [pick, on, at3, row_val, col_val]
  rfl

/-- The mean's column, for any words in the place of the numbers of kept rows. -/
theorem quotient_apply (L : IVec S16 32) (b : Fin 16) (d : Fin 1024) :
    (Host.divf (Host.reduceAdd (masked f M 0x00000000#32) (constant S_ .f32 0x00000000#32) reducesTo_S16x4096x1024_S16x1024_d1 h_S_)
      (broadcastInDim S16x1024 ![0, 1] bcast_S16x1_S16x1024_0_1 (broadcastInDim S16x1 ![0] bcast_S16_S16x1_0 (sitofp .f32 L)))
      : FVec Ideal S16x1024 .f32) (ix2 b d) = Ideal.div (totals M f b d.val 4096) (((L (ix1 b)).toInt : ℝ) : EReal) := by
  pointwise [masked]
  refine congrArg₂ Ideal.div ?_ rfl
  rw [totals, ← total_fin]
  simp only [keep, on, at3, row_val, col_val]
  rfl

theorem length_word (b : Fin 16) : (lengths M (ix1 b)).toNat = many (on M b) 4096 := by
  refine (StableHlo.Predicate.toNat_reduce_count_cols (n := 16) (m := 4096) (by decide) M natLt_1_32
    reducesTo_S16x4096_S16_d1 h_S_ (ix1 b)).trans ?_
  rw [← many_fin, Finset.card_filter]
  refine Finset.sum_congr rfl fun q _ => ?_
  have e : StableHlo.Predicate.ij b q = ix2 b (row q.val) := by
    rw [row_val]
    funext a
    fin_cases a <;> rfl
  show (if M (StableHlo.Predicate.ij b q) = 1#1 then 1 else 0) = _
  rw [e]

theorem many_le (P : Nat → Prop) [DecidablePred P] (n : Nat) : many P n ≤ n :=
  (Finset.sum_le_sum fun i _ => (by split_ifs <;> omega : (if P i then 1 else 0) ≤ 1)).trans (by simp)

theorem length_int (b : Fin 16) : (lengths M (ix1 b)).toInt = many (on M b) 4096 := by
  have h := many_le (on M b) 4096
  rw [BitVec.toInt_eq_toNat_of_lt (by rw [length_word]; omega), length_word]

theorem means_apply (b : Fin 16) (d : Fin 1024) : means f M (ix2 b d) = Ideal.div (totals M f b d.val 4096) (manys M b 4096) := by
  refine (quotient_apply f M (lengths M) b d).trans ?_
  rw [length_int]
  rfl

/-- The precondition: every batch keeps a row. -/
theorem some_kept (h : Cert.Pre_every_sequence_has_a_token.fn (F := Ideal) f M = fun _ => 1#1) (b : Fin 16) :
    0 < many (on M b) 4096 := by
  have h' : IntOp.cmpi .sgt (lengths M (ix1 b)) 0#32 = 1#1 := congrFun h (ix1 b)
  by_contra hz
  have hl : lengths M (ix1 b) = 0#32 := BitVec.eq_of_toNat_eq ((length_word M b).trans (by simpa using hz))
  rw [hl] at h'
  revert h'
  decide

end Cert.ReferenceIdeal.Plain

end
-- ==== Proof.Value.Equation.lean ====
/-
  The kernel and the reference over the extended reals end with the same result when every batch keeps a row.
-/
module

public import proofs.«01_k».proof.Defs
public import proofs.«01_k».proof.Proof.Value.Plain

@[expose] public section

set_option maxRecDepth 16384

noncomputable section

namespace Cert.Claims

open Cert.KernelIdeal Cert.KernelIdeal.Gen Cert.KernelIdeal.Hand
open Cert.KernelIdeal.Tiles Cert.KernelIdeal.Chunks Cert.KernelIdeal.Batches Cert.ReferenceIdeal.Plain
open Idealize.ShloMosaic Idealize.ShloMosaic.TcCoe Idealize.SL.Sem

/-- A product by the reciprocal of a count is the quotient by it, when the count isn't zero. -/
theorem mul_reciprocal (s : EReal) (k : Nat) (hk : 0 < k) : s * Ideal.div 1 ((k : ℝ) : EReal) = Ideal.div s ((k : ℝ) : EReal) := by
  have h : ((k : ℝ) : EReal) ≠ 0 := by
    rw [← EReal.coe_zero, Ne, EReal.coe_eq_coe_iff]
    exact Nat.cast_ne_zero.2 (Nat.pos_iff_ne_zero.1 hk)
  unfold Ideal.div
  rw [if_neg h, if_neg h, one_mul]

/-- The halves side by side. -/
theorem halves_apply (A B : FVec Ideal Cert.ReferenceIdeal.S16x1024 .f32) (b : Fin 16) (q : Fin 2048) :
    concatenate Cert.ReferenceIdeal.S16x2048 1 [⟨Cert.ReferenceIdeal.S16x1024, A⟩, ⟨Cert.ReferenceIdeal.S16x1024, B⟩]
      Cert.ReferenceIdeal.Gen.concatenates_S16x1024_S16x1024_S16x2048_d1 (ix2 b q)
      = if h : q.val < 1024 then A (ix2 b ⟨q.val, h⟩) else B (ix2 b ⟨q.val - 1024, by have := q.isLt; omega⟩) := by
  pointwise []

/-- A mask bit widened to a word. -/
theorem widened : ∀ v : BitVec 1, BitVec.setWidth 8 v = word (v = 1#1) := by decide

/-- The mask's words as the launch finds them. -/
theorem launch_words (m : (ℓ : Loc nD τ sig) → Buf (Elt Ideal) ℓ) (c : Dev nD) (b : Fin 16) (l : Fin 4096) (e : Fin 128) :
    XMm (F := Ideal) m c (ix3 b l e) = word (m ((c.tc : Thread nD τ).loc main_arg1) (ix2 b l) = 1#1) := by
  have hV : XMm (F := Ideal) m c = (extui 8 (broadcastInDim S16x4096x128 ![0, 1, 2] bcast_S16x4096x1_S16x4096x128_0_1_2
      (broadcastInDim S16x4096x1 ![0, 1] bcast_S16x4096_S16x4096x1_0_1 (m ((c.tc : Thread nD τ).loc main_arg1)))) natLt_1_8 : IVec S16x4096x128 8) := by
    unfold XMm
    entry_read
    rfl
  rw [hV]
  pointwise []
  exact widened _

/-- The two results agree. -/
theorem results_agree (m : (ℓ : Loc nD τ sig) → Buf (Elt Ideal) ℓ) (c : Dev nD) (f : FVec Ideal S16x4096x1024 .f32) (M : IVec S16x4096 1)
    (hf : m ((c.tc : Thread nD τ).loc main_arg0) = f) (hM : m ((c.tc : Thread nD τ).loc main_arg1) = M)
    (hpre : Cert.Pre_every_sequence_has_a_token.fn (F := Ideal) f M = fun _ => 1#1) :
    outVal (F := Ideal) c (XFm m c) (XMm m c)
      = concatenate Cert.ReferenceIdeal.S16x2048 1 [⟨Cert.ReferenceIdeal.S16x1024, maxima f M⟩, ⟨Cert.ReferenceIdeal.S16x1024, means f M⟩]
        Cert.ReferenceIdeal.Gen.concatenates_S16x1024_S16x1024_S16x2048_d1 := by
  have hF : XFm (F := Ideal) m c = f := (V_main_arg0 m c).trans hf
  have hW : ∀ (b : Fin 16) (l : Fin 4096) (e : Fin 128), XMm (F := Ideal) m c (ix3 b l e) = word (M (ix2 b l) = 1#1) := fun b l e => by
    rw [launch_words, hM]
  funext y
  obtain ⟨b, q, rfl⟩ : ∃ b q, y = ix2 b q := ⟨y 0, y 1, eq_ix2 y⟩
  rw [halves_apply]
  show batchRow (F := Ideal) c (XFm m c) (XMm m c) b.val q = _
  by_cases h : q.val < 1024
  · rw [dif_pos h, maxima_apply, row_max c _ _ M f hF hW b.val b.isLt ⟨q.val, h⟩ q rfl]
  · have hq := q.isLt
    rw [dif_neg h, means_apply, row_mean c _ _ M f hF hW b.val b.isLt ⟨q.val - 1024, by omega⟩ q (by dsimp only; omega),
      mul_reciprocal _ _ (some_kept f M hpre b)]

/-- The kernel's result is the reference's. -/
theorem same_result : Cert.algebraic_KernelIdeal_ReferenceIdeal_pre_every_sequence_has_a_token := by
  intro m g m' g' hpre hagree
  refine ⟨_, (θ_run Cert.KernelIdeal.defs _ _).mono (fun _ h => h.1) (run_values (F := Ideal) m g),
    (θ_run Cert.ReferenceIdeal.defs _ _).mono (fun _ h c => ⟨(h c).1.trans ?_, (h c).2⟩) (Cert.ReferenceIdeal.Value.run (F := Ideal) m' g')⟩
  have ha := hagree c
  rw [ha.1, ha.2]
  exact (results_agree m c _ _ rfl rfl (hpre c)).symm

end Cert.Claims

end
-- ==== Proof.lean ====
/-
  The proof of `Cert.Claim`: the programs' stated facts, then the claims in their order.
-/
module

public import proofs.«01_k».proof.Defs
public import proofs.«01_k».proof.Proof.Claims.Runs
public import proofs.«01_k».proof.Proof.Value.Equation
public import proofs.«01_k».proof.Proof.Gen.Kernel
public import proofs.«01_k».proof.Proof.Gen.KernelIdeal
public import proofs.«01_k».proof.Proof.Gen.ReferenceIdeal
public import proofs.«01_k».proof.Proof.Gen.Pre_every_sequence_has_a_token

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_every_sequence_has_a_token.Gen.facts,
    Claims.kernel_frame, Claims.ideal_frame, fun m g _ => Claims.ideal_frame m g trivial,
    Claims.reference_frame, fun m g _ => Claims.reference_frame m g trivial, Claims.names_kept, Claims.same_result⟩

end Cert.Proof

end
